-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S100000x128 : Shape := ⟨2, ![100000, 128]⟩
abbrev S100000 : Shape := ⟨1, ![100000]⟩
abbrev S16384 : Shape := ⟨1, ![16384]⟩
abbrev S16384x256 : Shape := ⟨2, ![16384, 256]⟩
abbrev S384x256 : Shape := ⟨2, ![384, 256]⟩
abbrev S384x128 : Shape := ⟨2, ![384, 128]⟩
abbrev S384 : Shape := ⟨1, ![384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S100000x128 .f32) (main_arg1 : FVec F S100000 .f32) (main_arg2 : IVec S16384 32) (main_arg3 : FVec F S16384x256 .f32) (main_arg4 : FVec F S16384 .f32) (main_arg5 : FVec F S384x256 .f32) (main_arg6 : FVec F S384x128 .f32) (main_arg7 : FVec F S384 .f32) (main_arg8 : FVec F S384 .f32) : IVec S_ 1 :=
  let main_c : IVec S_ 32 := constantI S_ 32 0#32
  let main_v0 : IVec S16384 32 := broadcastInDim S16384 ![] bcast_S_S16384 main_c
  let main_v1 : IVec S16384 1 := cmpi .sge main_arg2 main_v0
  let main_c_0 : IVec S_ 32 := constantI S_ 32 100000#32
  let main_v2 : IVec S16384 32 := broadcastInDim S16384 ![] bcast_S_S16384 main_c_0
  let main_v3 : IVec S16384 1 := cmpi .slt main_arg2 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S100000x128 : Shape := ⟨2, ![100000, 128]⟩
abbrev S100000 : Shape := ⟨1, ![100000]⟩
abbrev S16384 : Shape := ⟨1, ![16384]⟩
abbrev S16384x256 : Shape := ⟨2, ![16384, 256]⟩
abbrev S384x256 : Shape := ⟨2, ![384, 256]⟩
abbrev S384x128 : Shape := ⟨2, ![384, 128]⟩
abbrev S384 : Shape := ⟨1, ![384]⟩
abbrev S16384x128 : Shape := ⟨2, ![16384, 128]⟩
abbrev S512 : Shape := ⟨1, ![512]⟩
abbrev S512x128 : Shape := ⟨2, ![512, 128]⟩
abbrev S_ : Shape := ⟨0, ![]⟩
abbrev S16 : Shape := ⟨1, ![16]⟩
abbrev S10000x128 : Shape := ⟨2, ![10000, 128]⟩
abbrev S1x384 : Shape := ⟨2, ![1, 384]⟩
abbrev S2048x256 : Shape := ⟨2, ![2048, 256]⟩
abbrev S2048x128 : Shape := ⟨2, ![2048, 128]⟩
abbrev S2048x384 : Shape := ⟨2, ![2048, 384]⟩
abbrev S32x4x128 : Shape := ⟨3, ![32, 4, 128]⟩
abbrev S4x128 : Shape := ⟨2, ![4, 128]⟩
abbrev S1x4x128 : Shape := ⟨3, ![1, 4, 128]⟩
abbrev S1x128 : Shape := ⟨2, ![1, 128]⟩
abbrev S128 : Shape := ⟨1, ![128]⟩
abbrev S128x128 : Shape := ⟨2, ![128, 128]⟩

abbrev nBuf : Table → Nat
  | .hbm => 18
  | .local .tc .vmem => 14
  | .local .scVector .vmem => 8
  | _ => 0

abbrev bufTy : (tb : Table) → Fin (nBuf tb) → BufTy
  | .hbm, ⟨0, _⟩ => ⟨S100000x128, .f32⟩
  | .hbm, ⟨1, _⟩ => ⟨S100000, .f32⟩
  | .hbm, ⟨2, _⟩ => ⟨S16384, .i32⟩
  | .hbm, ⟨3, _⟩ => ⟨S16384x256, .f32⟩
  | .hbm, ⟨4, _⟩ => ⟨S16384, .f32⟩
  | .hbm, ⟨5, _⟩ => ⟨S384x256, .f32⟩
  | .hbm, ⟨6, _⟩ => ⟨S384x128, .f32⟩
  | .hbm, ⟨7, _⟩ => ⟨S384, .f32⟩
  | .hbm, ⟨8, _⟩ => ⟨S384, .f32⟩
  | .hbm, ⟨9, _⟩ => ⟨S16384x128, .f32⟩
  | .hbm, ⟨10, _⟩ => ⟨S100000, .i32⟩
  | .hbm, ⟨11, _⟩ => ⟨S100000x128, .f32⟩
  | .hbm, ⟨12, _⟩ => ⟨S1x384, .f32⟩
  | .hbm, ⟨13, _⟩ => ⟨S1x384, .f32⟩
  | .hbm, ⟨14, _⟩ => ⟨S16384x128, .f32⟩
  | .hbm, ⟨15, _⟩ => ⟨S32x4x128, .i32⟩
  | .hbm, ⟨16, _⟩ => ⟨S100000x128, .f32⟩
  | .hbm, ⟨17, _⟩ => ⟨S100000, .f32⟩
  | .local .tc .vmem, ⟨0, _⟩ => ⟨S10000x128, .f32⟩
  | .local .tc .vmem, ⟨1, _⟩ => ⟨S10000x128, .f32⟩
  | .local .tc .vmem, ⟨2, _⟩ => ⟨S10000x128, .f32⟩
  | .local .tc .vmem, ⟨3, _⟩ => ⟨S10000x128, .f32⟩
  | .local .tc .vmem, ⟨4, _⟩ => ⟨S2048x256, .f32⟩
  | .local .tc .vmem, ⟨5, _⟩ => ⟨S2048x256, .f32⟩
  | .local .tc .vmem, ⟨6, _⟩ => ⟨S2048x128, .f32⟩
  | .local .tc .vmem, ⟨7, _⟩ => ⟨S2048x128, .f32⟩
  | .local .tc .vmem, ⟨8, _⟩ => ⟨S384x256, .f32⟩
  | .local .tc .vmem, ⟨9, _⟩ => ⟨S384x128, .f32⟩
  | .local .tc .vmem, ⟨10, _⟩ => ⟨S1x384, .f32⟩
  | .local .tc .vmem, ⟨11, _⟩ => ⟨S1x384, .f32⟩
  | .local .tc .vmem, ⟨12, _⟩ => ⟨S2048x128, .f32⟩
  | .local .tc .vmem, ⟨13, _⟩ => ⟨S2048x128, .f32⟩
  | .local .scVector .vmem, ⟨0, _⟩ => ⟨S512, .i32⟩
  | .local .scVector .vmem, ⟨1, _⟩ => ⟨S512x128, .f32⟩
  | .local .scVector .vmem, ⟨2, _⟩ => ⟨S100000, .i32⟩
  | .local .scVector .vmem, ⟨3, _⟩ => ⟨S16384, .i32⟩
  | .local .scVector .vmem, ⟨4, _⟩ => ⟨S4x128, .i32⟩
  | .local .scVector .vmem, ⟨5, _⟩ => ⟨S4x128, .i32⟩
  | .local .scVector .vmem, ⟨6, _⟩ => ⟨S512x128, .f32⟩
  | .local .scVector .vmem, ⟨7, _⟩ => ⟨S512, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 30 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | _ => false

abbrev sig : RefSig :=
  ofTables nBuf rfl bufTy 4 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_arg0_scv : Ref sig .scVector := ⟨.hbm, 0, rfl⟩
abbrev main_arg2_scv : Ref sig .scVector := ⟨.hbm, 2, rfl⟩
abbrev main_v0_scv : Ref sig .scVector := ⟨.hbm, 9, rfl⟩
abbrev main_v1_scv : Ref sig .scVector := ⟨.hbm, 10, rfl⟩
abbrev main_v7_0_scv : Ref sig .scVector := ⟨.hbm, 16, rfl⟩
abbrev main_v7_1_scv : Ref sig .scVector := ⟨.hbm, 17, rfl⟩
abbrev main_v6_scv : Ref sig .scVector := ⟨.hbm, 15, rfl⟩
abbrev main_v5_scv : Ref sig .scVector := ⟨.hbm, 14, rfl⟩
abbrev main_arg4_scv : Ref sig .scVector := ⟨.hbm, 4, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc3_stg0_0 : Ref sig .tc := ⟨.vmem, 4, rfl⟩
abbrev cc3_stg0_1 : Ref sig .tc := ⟨.vmem, 5, rfl⟩
abbrev cc3_stg1_0 : Ref sig .tc := ⟨.vmem, 6, rfl⟩
abbrev cc3_stg1_1 : Ref sig .tc := ⟨.vmem, 7, rfl⟩
abbrev cc3_stg2_0 : Ref sig .tc := ⟨.vmem, 8, rfl⟩
abbrev cc3_stg3_0 : Ref sig .tc := ⟨.vmem, 9, rfl⟩
abbrev cc3_stg4_0 : Ref sig .tc := ⟨.vmem, 10, rfl⟩
abbrev cc3_stg5_0 : Ref sig .tc := ⟨.vmem, 11, rfl⟩
abbrev cc3_stg6_0 : Ref sig .tc := ⟨.vmem, 12, rfl⟩
abbrev cc3_stg6_1 : Ref sig .tc := ⟨.vmem, 13, rfl⟩
abbrev cc0_scratch0 : Ref sig .scVector := ⟨.vmem, 0, rfl⟩
abbrev cc0_scratch1 : Ref sig .scVector := ⟨.vmem, 1, rfl⟩
abbrev cc1_scratch0 : Ref sig .scVector := ⟨.vmem, 2, rfl⟩
abbrev cc1_scratch1 : Ref sig .scVector := ⟨.vmem, 3, rfl⟩
abbrev cc4_scratch0 : Ref sig .scVector := ⟨.vmem, 4, rfl⟩
abbrev cc4_scratch1 : Ref sig .scVector := ⟨.vmem, 5, rfl⟩
abbrev cc4_scratch2 : Ref sig .scVector := ⟨.vmem, 6, rfl⟩
abbrev cc4_scratch3 : Ref sig .scVector := ⟨.vmem, 7, rfl⟩
abbrev cc2_sem0_0 : DmaSem sig := 5
abbrev cc2_sem0_1 : DmaSem sig := 6
abbrev cc2_sem1_0 : DmaSem sig := 7
abbrev cc2_sem1_1 : DmaSem sig := 8
abbrev cc3_sem0_0 : DmaSem sig := 9
abbrev cc3_sem0_1 : DmaSem sig := 10
abbrev cc3_sem1_0 : DmaSem sig := 11
abbrev cc3_sem1_1 : DmaSem sig := 12
abbrev cc3_sem2_0 : DmaSem sig := 13
abbrev cc3_sem3_0 : DmaSem sig := 14
abbrev cc3_sem4_0 : DmaSem sig := 15
abbrev cc3_sem5_0 : DmaSem sig := 16
abbrev cc3_sem6_0 : DmaSem sig := 17
abbrev cc3_sem6_1 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

@[reducible] def k1_t1_loop : Scf.Loop 32 :=
  let c0_i32_1 : BitVec 32 := 0#32
  let c1024_i32 : BitVec 32 := 1024#32
  let v6 : BitVec 32 := Scalar.addi c0_i32_1 c1024_i32
  let c1_i32 : BitVec 32 := 1#32
  ⟨c0_i32_1, v6, c1_i32⟩
def k1_off1 (k1_t1 : Fin k1_t1_loop.trips) : Fin 1 → Nat :=
  let c0_i32_4 : BitVec 32 := 0#32
  let c0_i32_1 : BitVec 32 := 0#32
  let c1_i32 : BitVec 32 := 1#32
  let arg6 : BitVec 32 := Scf.iv c0_i32_1 c1_i32 k1_t1
  let c1_i32_3 : BitVec 32 := 1#32
  let v7 : BitVec 32 := Scalar.muli arg6 c1_i32_3
  let v8 : BitVec 32 := Scalar.addi c0_i32_4 v7
  let c16_i32 : BitVec 32 := 16#32
  let v9 : BitVec 32 := Scalar.muli v8 c16_i32
  let v10 : Index := Scalar.indexCast v9
  ![v10.toNat]

def k1_chk1 (i : grid1.Coords) (v11 : IVec S16 32) : Prop :=
  (∀ (k1_h1 : k1_cond1 i = 1#1), ∀ a x, ((![v11] : Fin 1 → IVec S16 32) a x).toNat < S100000.size a)
theorem k1_idx1_inb : ∀ (i : grid1.Coords) (v11 : IVec S16 32) (k1_hw1 : k1_chk1 i v11), ∀ (k1_h1 : k1_cond1 i = 1#1), ∀ a x, ((![v11] : Fin 1 → IVec S16 32) a x).toNat < S100000.size a := fun i v11 k1_hw1 k1_h1 => k1_hw1 k1_h1
abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S384x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S384x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x384 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x384 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2048x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨2, ![2, 16], ![false, false]⟩

def k4_off1 (i : grid4.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_194_r0 : BitVec 32 := 0#32
  let c0_i32_195_r0 : BitVec 32 := 0#32
  ![v1.toNat, 0, 0]
abbrev scKind : Fin 3 → Kind := fun | 0 => .scVector | 1 => .scVector | 2 => .scVector | ⟨_ + 3, h⟩ => absurd h (Nat.not_lt.2 (Nat.le_add_left _ _))
abbrev scNCore : Fin 3 → Nat := fun | 0 => 2 | 1 => 2 | 2 => 2 | ⟨_ + 3, h⟩ => absurd h (Nat.not_lt.2 (Nat.le_add_left _ _))
abbrev scNSub : Fin 3 → Nat := fun | 0 => 16 | 1 => 16 | 2 => 16 | ⟨_ + 3, h⟩ => absurd h (Nat.not_lt.2 (Nat.le_add_left _ _))
-- ==== ReferenceIdeal.lean ====
abbrev S100000x128 : Shape := ⟨2, ![100000, 128]⟩
abbrev S100000 : Shape := ⟨1, ![100000]⟩
abbrev S16384 : Shape := ⟨1, ![16384]⟩
abbrev S16384x256 : Shape := ⟨2, ![16384, 256]⟩
abbrev S384x256 : Shape := ⟨2, ![384, 256]⟩
abbrev S384x128 : Shape := ⟨2, ![384, 128]⟩
abbrev S384 : Shape := ⟨1, ![384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩
abbrev S256x384 : Shape := ⟨2, ![256, 384]⟩
abbrev S16384x384 : Shape := ⟨2, ![16384, 384]⟩
abbrev S1x384 : Shape := ⟨2, ![1, 384]⟩
abbrev S128x384 : Shape := ⟨2, ![128, 384]⟩

abbrev nBuf : Space → Nat
  | .hbm => 93
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .f32⟩
  | .hbm, ⟨2, _⟩ => ⟨S16384, .i32⟩
  | .hbm, ⟨3, _⟩ => ⟨S16384x256, .f32⟩
  | .hbm, ⟨4, _⟩ => ⟨S16384, .f32⟩
  | .hbm, ⟨5, _⟩ => ⟨S384x256, .f32⟩
  | .hbm, ⟨6, _⟩ => ⟨S384x128, .f32⟩
  | .hbm, ⟨7, _⟩ => ⟨S384, .f32⟩
  | .hbm, ⟨8, _⟩ => ⟨S384, .f32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S1, .i32⟩
  | .hbm, ⟨18, _⟩ => ⟨S_, .i32⟩
  | .hbm, ⟨19, _⟩ => ⟨S16384x1, .i32⟩
  | .hbm, ⟨20, _⟩ => ⟨S16384x1, .i1⟩
  | .hbm, ⟨21, _⟩ => ⟨S1x1, .i32⟩
  | .hbm, ⟨22, _⟩ => ⟨S16384x1, .i32⟩
  | .hbm, ⟨23, _⟩ => ⟨S16384x1, .i1⟩
  | .hbm, ⟨24, _⟩ => ⟨S16384x1, .i1⟩
  | .hbm, ⟨25, _⟩ => ⟨S_, .i1⟩
  | .hbm, ⟨26, _⟩ => ⟨S16384, .i1⟩
  | .hbm, ⟨27, _⟩ => ⟨S16384x128, .f32⟩
  | .hbm, ⟨28, _⟩ => ⟨S16384x128, .i1⟩
  | .hbm, ⟨29, _⟩ => ⟨S_, .f32⟩
  | .hbm, ⟨30, _⟩ => ⟨S16384x128, .f32⟩
  | .hbm, ⟨31, _⟩ => ⟨S16384x128, .f32⟩
  | .hbm, ⟨32, _⟩ => ⟨S256x384, .f32⟩
  | .hbm, ⟨33, _⟩ => ⟨S16384x384, .f32⟩
  | .hbm, ⟨34, _⟩ => ⟨S1x384, .f32⟩
  | .hbm, ⟨35, _⟩ => ⟨S16384x384, .f32⟩
  | .hbm, ⟨36, _⟩ => ⟨S16384x384, .f32⟩
  | .hbm, ⟨37, _⟩ => ⟨S128x384, .f32⟩
  | .hbm, ⟨38, _⟩ => ⟨S16384x384, .f32⟩
  | .hbm, ⟨39, _⟩ => ⟨S1x384, .f32⟩
  | .hbm, ⟨40, _⟩ => ⟨S16384x384, .f32⟩
  | .hbm, ⟨41, _⟩ => ⟨S16384x384, .f32⟩
  | .hbm, ⟨42, _⟩ => ⟨S16384x128, .f32⟩
  | .hbm, ⟨43, _⟩ => ⟨S16384x128, .f32⟩
  | .hbm, ⟨44, _⟩ => ⟨S16384x128, .f32⟩
  | .hbm, ⟨45, _⟩ => ⟨S16384x128, .f32⟩
  | .hbm, ⟨46, _⟩ => ⟨S16384x128, .f32⟩
  | .hbm, ⟨47, _⟩ => ⟨S16384x128, .f32⟩
  | .hbm, ⟨48, _⟩ => ⟨S16384x128, .f32⟩
  | .hbm, ⟨49, _⟩ => ⟨S16384x128, .f32⟩
  | .hbm, ⟨50, _⟩ => ⟨S16384x128, .f32⟩
  | .hbm, ⟨51, _⟩ => ⟨S_, .f32⟩
  | .hbm, ⟨52, _⟩ => ⟨S16384x128, .f32⟩
  | .hbm, ⟨53, _⟩ => ⟨S16384x128, .f32⟩
  | .hbm, ⟨54, _⟩ => ⟨S_, .f32⟩
  | .hbm, ⟨55, _⟩ => ⟨S16384x128, .f32⟩
  | .hbm, ⟨56, _⟩ => ⟨S16384x128, .f32⟩
  | .hbm, ⟨57, _⟩ => ⟨S16384x128, .f32⟩
  | .hbm, ⟨58, _⟩ => ⟨S16384x128, .f32⟩
  | .hbm, ⟨59, _⟩ => ⟨S16384x128, .f32⟩
  | .hbm, ⟨60, _⟩ => ⟨S_, .f32⟩
  | .hbm, ⟨61, _⟩ => ⟨S16384x128, .f32⟩
  | .hbm, ⟨62, _⟩ => ⟨S16384x128, .f32⟩
  | .hbm, ⟨63, _⟩ => ⟨S_, .f32⟩
  | .hbm, ⟨64, _⟩ => ⟨S16384x128, .f32⟩
  | .hbm, ⟨65, _⟩ => ⟨S16384x128, .f32⟩
  | .hbm, ⟨66, _⟩ => ⟨S16384x128, .f32⟩
  | .hbm, ⟨67, _⟩ => ⟨S16384x128, .f32⟩
  | .hbm, ⟨68, _⟩ => ⟨S16384x128, .f32⟩
  | .hbm, ⟨69, _⟩ => ⟨S_, .f32⟩
  | .hbm, ⟨70, _⟩ => ⟨S16384x128, .f32⟩
  | .hbm, ⟨71, _⟩ => ⟨S16384x128, .f32⟩
  | .hbm, ⟨72, _⟩ => ⟨S16384x128, .f32⟩
  | .hbm, ⟨73, _⟩ => ⟨S16384x128, .f32⟩
  | .hbm, ⟨74, _⟩ => ⟨S16384x128, .f32⟩
  | .hbm, ⟨75, _⟩ => ⟨S_, .i32⟩
  | .hbm, ⟨76, _⟩ => ⟨S16384, .i32⟩
  | .hbm, ⟨77, _⟩ => ⟨S16384, .i1⟩
  | .hbm, ⟨78, _⟩ => ⟨S_, .i32⟩
  | .hbm, ⟨79, _⟩ => ⟨S16384, .i32⟩
  | .hbm, ⟨80, _⟩ => ⟨S16384, .i32⟩
  | .hbm, ⟨81, _⟩ => ⟨S16384, .i32⟩
  | .hbm, ⟨82, _⟩ => ⟨S16384x1, .i32⟩
  | .hbm, ⟨83, _⟩ => ⟨S100000x128, .f32⟩
  | .hbm, ⟨84, _⟩ => ⟨S_, .i32⟩
  | .hbm, ⟨85, _⟩ => ⟨S16384, .i32⟩
  | .hbm, ⟨86, _⟩ => ⟨S16384, .i1⟩
  | .hbm, ⟨87, _⟩ => ⟨S_, .i32⟩
  | .hbm, ⟨88, _⟩ => ⟨S16384, .i32⟩
  | .hbm, ⟨89, _⟩ => ⟨S16384, .i32⟩
  | .hbm, ⟨90, _⟩ => ⟨S16384, .i32⟩
  | .hbm, ⟨91, _⟩ => ⟨S16384x1, .i32⟩
  | .hbm, ⟨92, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst : Ref sig .tc := ⟨.hbm, 51, rfl⟩
abbrev main_v20 : Ref sig .tc := ⟨.hbm, 52, rfl⟩
abbrev main_v21 : Ref sig .tc := ⟨.hbm, 53, rfl⟩
abbrev main_cst_0 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_1 : Ref sig .tc := ⟨.hbm, 60, rfl⟩
abbrev main_v27 : Ref sig .tc := ⟨.hbm, 61, rfl⟩
abbrev main_v28 : Ref sig .tc := ⟨.hbm, 62, rfl⟩
abbrev main_cst_2 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_3 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_c : Ref sig .tc := ⟨.hbm, 75, rfl⟩
abbrev main_v39 : Ref sig .tc := ⟨.hbm, 76, rfl⟩
abbrev main_v40 : Ref sig .tc := ⟨.hbm, 77, rfl⟩
abbrev main_c_4 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_c_5 : Ref sig .tc := ⟨.hbm, 84, rfl⟩
abbrev main_v46 : Ref sig .tc := ⟨.hbm, 85, rfl⟩
abbrev main_v47 : Ref sig .tc := ⟨.hbm, 86, rfl⟩
abbrev main_c_6 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩

abbrev nD : Nat := 1
abbrev τ : Topo := Topo.v7x

variable {F : FTy → Type} [FloatOps F]
-- ==== Proof.WmScatter.lean ====
/-
  An indirect scatter into a buffer held in WRITE MODE. The words of the offset list may repeat: the
  target is held at a share with agreed targets, each row written marks its elements, and the marks
  join again at the wait. The credits of the stream are part of a counted batch (Lib/Batch.lean), so
  that several streams may count on one semaphore.
-/
module

public import Idealize.ShloMosaic.Lib.SparseCore.Scatter
public import Idealize.ShloMosaic.Lib.Batch
public import Idealize.ShloMosaic.Lib.WriteMode

@[expose] public section

noncomputable section

namespace Cert.Proof.WmScatter

open Idealize.ShloMosaic
open Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Idealize.SL.RA.PCS Idealize.SL.RA.Region

section Shares

variable {nD : Nat} {τ : Topo} {sig : RefSig} {Ix : Type} [DecidableEq Ix] {Val : EltTy → Type} {Name : Type} [DecidableEq Name]
variable {U : Type} [URA U] {Lvl : Type} [Preorder Lvl] (emb : UEmb (WmRA nD τ sig Val) U)

local notation "𝕄" => MT nD τ sig Ix Val Name U Lvl
local notation:60 ℓ " ⇝[" I "]{" q "} " f:max " ⇒ " g:max " @ " W:max => willBeTo emb ℓ I q f g W

/-- Along the share: the marks of the parts together are the marks of the whole. -/
theorem willBeTo_share {ℓ : Loc nD τ sig} {I : Finset (Idx ℓ)} {q q₁ q₂ : PosShare TreeShare} {f : Buf Val ℓ} {g : Tgt Val ℓ}
    {W₁ W₂ : Finset (Idx ℓ)} (h : q ∈ q₁ ·? q₂) :
    (ℓ ⇝[I]{q} f ⇒ g @ (W₁ ∪ W₂) : sProp 𝕄) = iprop((ℓ ⇝[I]{q₁} f ⇒ g @ W₁) ∗ ℓ ⇝[I]{q₂} f ⇒ g @ W₂) := by
  have e := BI.Region.held_share (ι := (wmEmb (Name := Name) (Lvl := Lvl) Ix emb).toEmb) (k := ℓ) (I := I) (q := q) (q₁ := q₁) (q₂ := q₂)
    (x := fun i => WB.mk (f i) (g i) (decide (i ∈ W₁))) (y := fun i => WB.mk (f i) (g i) (decide (i ∈ W₂)))
    (z := fun i => WB.mk (f i) (g i) (decide (i ∈ W₁ ∪ W₂))) h (fun i _ => by
      have := WB.mem_mk_op_mk (f i) (g i) (decide (i ∈ W₁)) (decide (i ∈ W₂))
      simp only [← Bool.decide_or, ← Finset.mem_union] at this; exact this)
  exact BI.Entails.antisymm e.1 e.2

/-- The pieces of a share, each with marks of its own, are the share with all the marks. -/
theorem willBeTo_pieces {ℓ : Loc nD τ sig} (I : Finset (Idx ℓ)) (f : Buf Val ℓ) (g : Tgt Val ℓ) :
    ∀ (n : ℕ) (q : PosShare TreeShare) (W : Fin (n + 1) → Finset (Idx ℓ)),
      (bigSep Finset.univ fun k : Fin (n + 1) => ℓ ⇝[I]{piece q n k} f ⇒ g @ (W k))
        = (ℓ ⇝[I]{q} f ⇒ g @ (Finset.univ.biUnion W) : sProp 𝕄)
  | 0, q, W => by
    rw [BI.bigSep_univ_of_subsingleton (0 : Fin 1) (Φ := fun k : Fin 1 => (ℓ ⇝[I]{piece q 0 k} f ⇒ g @ (W k) : sProp 𝕄))]
    congr 1; simp
  | n + 1, q, W => by
    have hW : Finset.univ.biUnion W = W 0 ∪ Finset.univ.biUnion fun k : Fin (n + 1) => W k.succ := by
      ext i; simp only [Finset.mem_biUnion, Finset.mem_univ, true_and, Finset.mem_union, Fin.exists_fin_succ]
    rw [hW, willBeTo_share emb (PosShare.mem_left_op_right q), ← willBeTo_pieces I f g n q.right,
      bigSep_univ_succ (Ix := Ix) (Name := Name) (U := U) (Lvl := Lvl) (m := n + 1)]
    congr 1

theorem willBeTo_piecesOf {ℓ : Loc nD τ sig} (I : Finset (Idx ℓ)) (f : Buf Val ℓ) (g : Tgt Val ℓ) {o : ℕ} (ho : 0 < o)
    (q : PosShare TreeShare) (W : Fin o → Finset (Idx ℓ)) :
    (bigSep Finset.univ fun k : Fin o => ℓ ⇝[I]{pieceOf q o ho k} f ⇒ g @ (W k))
      = (ℓ ⇝[I]{q} f ⇒ g @ (Finset.univ.biUnion W) : sProp 𝕄) := by
  obtain ⟨n, rfl⟩ : ∃ n, o = n + 1 := ⟨o - 1, by omega⟩
  exact willBeTo_pieces emb I f g n q W

/-- Unmarked, a share is its pieces, all unmarked. -/
theorem willBeTo_piecesOf_empty {ℓ : Loc nD τ sig} (I : Finset (Idx ℓ)) (f : Buf Val ℓ) (g : Tgt Val ℓ) {o : ℕ} (ho : 0 < o)
    (q : PosShare TreeShare) :
    (ℓ ⇝[I]{q} f ⇒ g @ ∅ : sProp 𝕄) = bigSep Finset.univ fun k : Fin o => ℓ ⇝[I]{pieceOf q o ho k} f ⇒ g @ ∅ := by
  rw [willBeTo_piecesOf emb I f g ho q fun _ => ∅]; congr 1; ext; simp

end Shares

section Pend

variable {nD : Nat} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

/-- The issue rights from the `k`-th on: the next `o`, and those from `k + o` on. -/
theorem bigSep_pending_take {n : ℕ} (Φ : Fin n → sProp 𝕄) : ∀ (o k : ℕ) (hk : k + o ≤ n),
    bigSep (Transfers.pending k) Φ = iprop((bigSep Finset.univ fun j : Fin o => Φ ⟨k + j.val, by omega⟩) ∗ bigSep (Transfers.pending (k + o)) Φ) := by
  classical
  intro o k hk
  let em : Fin o ↪ Fin n := ⟨fun j => ⟨k + j.val, by omega⟩, fun a b h => by
    have := congrArg Fin.val h; simp only at this; exact Fin.ext (by omega)⟩
  have hd : Disjoint (Finset.univ.map em) (Transfers.pending (n := n) (k + o)) := by
    rw [Finset.disjoint_left]; intro a ha hb
    obtain ⟨j, -, rfl⟩ := Finset.mem_map.mp ha
    have := (Finset.mem_filter.mp hb).2
    change k + o ≤ k + j.val at this; omega
  have hu : Transfers.pending (n := n) k = Finset.univ.map em ∪ Transfers.pending (n := n) (k + o) := by
    ext t
    simp only [Transfers.pending, Finset.mem_filter, Finset.mem_univ, true_and, Finset.mem_union, Finset.mem_map]
    constructor
    · intro h
      by_cases hh : k + o ≤ t.val
      · exact Or.inr hh
      · exact Or.inl ⟨⟨t.val - k, by omega⟩, Fin.ext (show k + (t.val - k) = t.val by omega)⟩
    · rintro (⟨j, rfl⟩ | h)
      · exact Nat.le_add_right _ _
      · omega
  rw [hu, BI.bigSep_union hd, BI.bigSep_map]; rfl

end Pend

section Rule

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (emb : UEmb (WmRA nD τ sig (Elt F)) U)
variable (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl
local notation:60 ℓ " ⇝[" I "]{" q "} " f:max " ⇒ " g:max " @ " W:max => willBeTo emb ℓ I q f g W

variable (src : Memref sig c.2.kind .vmem s e) (dst : Memref sig c.2.kind sp s₀ e) (hg : s₀.Gathers a s)
  (offs : Memref sig c.2.kind .vmem si .i32) (hn : si.numel = s.size hg.axis') (ho : 0 < s.size hg.axis')
  (q qo qd : PosShare TreeShare) (fs : Buf (Elt F) (src.view.loc c)) (fd : Buf (Elt F) (dst.view.loc c))
  (gd : Tgt (Elt F) (dst.view.loc c)) (fo : Buf (Elt F) (offs.view.loc c))
  (r : Fin (s.size hg.axis') → Fin (s₀.size hg.axis))

/-- What entry `j` of the stream delivers: its piece of the target, the row it wrote marked; its word of
    the list; its row of the source. -/
def entryD (j : Fin (s.size hg.axis')) : sProp 𝕄 :=
  iprop(((dst.view.loc c ⇝[Finset.univ]{pieceOf qd _ ho j} fd ⇒ gd @ ((dst.view.slice (s₀.rowRect hg.axis (r j))).set))
      ∗ (offs.view.loc c ↦[{offs.view.emb (si.rowMajor.symm (j.cast hn.symm))}]{qo} fo))
    ∗ (src.view.loc c ↦[(src.view.slice (s.rowRect hg.axis' j)).set]{q} fs))

instance entryD_storable (j : Fin (s.size hg.axis')) :
    Storable (upEmb : UEmb _ 𝕄) (entryD emb c src dst hg offs hn ho q qo qd fs fd gd fo r j) := by
  unfold entryD; infer_instance

/-- All the entries' deliveries: the target's share, every named row marked; the list; the source. -/
theorem entryD_join :
    bigSep Finset.univ (entryD emb c src dst hg offs hn ho q qo qd fs fd gd fo r)
      ⊢ (iprop((dst.view.loc c ⇝[Finset.univ]{qd} fd ⇒ gd @ (namedRows c dst.view hg.axis r))
          ∗ (offs.view.loc c ↦[offs.view.set]{qo} fo) ∗ (src.view.loc c ↦[src.view.set]{q} fs)) : sProp 𝕄) := by
  have hen : Function.Bijective fun j : Fin (s.size hg.axis') => si.rowMajor.symm (j.cast hn.symm) :=
    si.rowMajor.symm.bijective.comp (finCongr hn.symm).bijective
  unfold entryD
  iintro HD
  ihave H1 := Transfers.bigSep_sep_out _ _ _ $$ HD
  icases H1 with ⟨H2, Hsrc⟩
  ihave H3 := Transfers.bigSep_sep_out _ _ _ $$ H2
  icases H3 with ⟨Ht, Hoffs⟩
  isplitl [Ht]
  · iapply (Entails.of_eq (willBeTo_piecesOf emb Finset.univ fd gd ho qd
      (fun j => (dst.view.slice (s₀.rowRect hg.axis (r j))).set))); iexact Ht
  isplitl [Hoffs]
  · iapply (Entails.of_eq (pointsTo_entries c offs.view (fun j : Fin (s.size hg.axis') => si.rowMajor.symm (j.cast hn.symm)) hen qo fo).symm); iexact Hoffs
  · iapply (Entails.of_eq (pointsTo_rows c src.view hg.axis' q fs).symm); iexact Hsrc

set_option maxHeartbeats 1000000 in
/-- `enqueueIndirectScatter` into a target held in write mode, its entries transfers `k₀ … k₀ + o` of a
    batch counting `N` each on the semaphore. -/
theorem wp_wmScatter [Infinite Name] [EC.LandsIn (upEmb : UEmb _ 𝕄)] {ιwm : Name} {sem : DmaSem sig}
    {hp : c.2.kind = .scVector} {he : e.bits = 32} {hsp : sp = .hbm ∨ sp = .shared} {hr : s₀.StreamRows a}
    {k : PUnit → Prog (TpuEff nD τ sig (Elt F) Λ c.2) α}
    (ι : Ix) (N : ℕ) {n : ℕ} (D : Fin n → sProp 𝕄) (k₀ u : ℕ) (hk : k₀ + s.size hg.axis' ≤ n) (hu : u ≤ k₀ * N)
    (hin : ∀ x, (offs.view.read (Elt F) fo x).toNat < s₀.size hg.axis)
    (hr' : r = rows (offs.view.read (Elt F) fo) hn hin)
    (hN : ∀ j, (dst.slice (s₀.rowRect hg.axis (r j)) (s₀.stride_rowRect hg.axis _)).view.dmaCredit = N)
    (hadm : ∀ j, (dst.view.slice (s₀.rowRect hg.axis (r j))).Admitted (Elt F) gd (scatterRowPayload c src hg fs j) Finset.univ)
    (hD : ∀ j : Fin (s.size hg.axis'), entryD emb c src dst hg offs hn ho q qo qd fs fd gd fo r j ⊢ D ⟨k₀ + j.val, by omega⟩) :
    iprop(wmInv emb ιwm ∗ (src.view.loc c ↦[src.view.set]{q} fs) ∗ (dst.view.loc c ⇝[Finset.univ]{qd} fd ⇒ gd @ ∅)
        ∗ (offs.view.loc c ↦[offs.view.set]{qo} fo) ∗ Transfers.Batch EC c (.dma sem) ι N D k₀ u)
      ⊢ iprop((Transfers.Batch EC c (.dma sem) ι N D (k₀ + s.size hg.axis') u
              -∗ wp frame (wpE defs 𝒱 c bd) Set.univ (k ⟨⟩) Q)
          -∗ wp frame (wpE defs 𝒱 c bd) Set.univ (enqueueIndirectScatter hp src dst hg offs hn sem he hsp hr >>= k) Q) := by
  classical
  rw [enqueueIndirectScatter_bind]
  let S : Stream nD τ sig (Elt F) :=
    Stream.issued c offs.view hn sem (fun j w => (rowOf (s₀.size hg.axis) w).map (scatterRow c src dst hg sem he hsp hr j)) 0
  let rd : Fin (s.size hg.axis') → RowDma τ sig (Elt F) c.2 sem := fun j => scatterRow c src dst hg sem he hsp hr j (r j)
  let w : (j : Fin (s.size hg.axis')) → (s₀.rowShape hg.axis).Idx → Elt F e := scatterRowPayload c src hg fs
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; subst hr'; rfl
  have hen : Function.Bijective S.entry :=
    (si.rowMajor.symm.bijective.comp (finCongr hn.symm).bijective)
  have hsrcset : ∀ j, (src.view.slice (s.rowRect hg.axis' j)).set = (rd j).src.view.set := fun j =>
    (View.set_cast (v := src.view.slice (s.rowRect hg.axis' j)) _ _).symm
  have hsum : ∑ j, (rd j).dst.view.dmaCredit = s.size hg.axis' * N := by
    rw [show (∑ j, (rd j).dst.view.dmaCredit) = ∑ _j : Fin (s.size hg.axis'), N from Finset.sum_congr rfl fun j _ => hN j]
    simp
  unfold Transfers.Batch
  iintro ⟨#Hwm, Hs, Hd, Ho, %γ, %γ₀, %κ, #Hinv, Hγ, Hu, Hcr⟩ Hk
  ihave Hγ' := (Entails.of_eq (bigSep_pending_take (fun t => count EC (γ t) 0) (s.size hg.axis') k₀ hk)) $$ Hγ
  icases Hγ' with ⟨Hγ, Hγr⟩
  ihave Hd' := (Entails.of_eq (willBeTo_piecesOf_empty emb Finset.univ fd gd ho qd)) $$ Hd
  ihave Ho' := (Entails.of_eq (pointsTo_entries c offs.view S.entry hen qo fo)) $$ Ho
  ihave Hs' := (Entails.of_eq (pointsTo_rows c src.view hg.axis' q fs)) $$ Hs
  iapply (wp_enqueueIndirectDma 𝒱 c bd Set.univ (qo := qo) (fo := fo) (rd := rd) ι (s.size hg.axis' * N) hA hrd hsum) $$ [Hd' Ho' Hs' Hγ]
  · have hrow : ∀ j : Fin (s.size hg.axis'), iprop((wmInv emb ιwm ∗ inv κ (Transfers.batchBody EC (c, SemLoc.dma sem) N D γ γ₀))
          ∗ ((((dst.view.loc c ⇝[Finset.univ]{pieceOf qd _ ho j} fd ⇒ gd @ ∅) ∗ S.heldEntry qo fo j)
          ∗ (src.view.loc c ↦[(src.view.slice (s.rowRect hg.axis' j)).set]{q} fs)) ∗ count EC (γ ⟨k₀ + j.val, by omega⟩) 0))
        ⊢ iprop(S.heldEntry qo fo j ∗ (S.heldEntry qo fo j -∗ rowRes c (rd j))) := fun j => by
      iintro ⟨⟨#Hwm, #Hinv⟩, ⟨⟨Hr, He⟩, Hsq⟩, Hγj⟩
      isplitl [He]; · iexact He
      iintro He
      unfold rowRes
      iexists q, fs, iprop((dst.view.loc c ⇝[Finset.univ]{pieceOf qd _ ho j} fd ⇒ gd @ (∅ ∪ (dst.view.slice (s₀.rowRect hg.axis (r j))).set)) ∗ S.heldEntry qo fo j)
      isplitl [Hsq]; · iapply (Entails.of_eq (congrArg (fun I => (src.view.loc c ↦[I]{q} fs : sProp 𝕄)) (hsrcset j))) $$ Hsq
      isplitl [Hr He]
      · iapply writeUpdate_frame
        isplitl [Hr]
        · iapply (willBeTo_writeUpdate (emb := emb) (ιwm := ιwm) c (v := dst.view.slice (s₀.rowRect hg.axis (r j))) (Finset.subset_univ _) (hadm j))
          isplitr; · iexact Hwm
          iexact Hr
        · iexact He
      · iapply (Entails.of_eq (show (creditUpdate (c, SemLoc.dma sem) N 0
            iprop(((dst.view.loc c ⇝[Finset.univ]{pieceOf qd _ ho j} fd ⇒ gd @ (∅ ∪ (dst.view.slice (s₀.rowRect hg.axis (r j))).set)) ∗ S.heldEntry qo fo j)
              ∗ (src.view.loc c ↦[(src.view.slice (s.rowRect hg.axis' j)).set]{q} fs)) : sProp 𝕄)
            = creditUpdate (c, SemLoc.dma sem) ((rd j).dst.view.amount (.dma sem)) 0
            iprop(((dst.view.loc c ⇝[Finset.univ]{pieceOf qd _ ho j} fd ⇒ gd @ (∅ ∪ (dst.view.slice (s₀.rowRect hg.axis (r j))).set)) ∗ S.heldEntry qo fo j)
              ∗ ((rd j).src.view.loc c ↦[(rd j).src.view.set]{q} fs)) from by rw [hsrcset j, show (rd j).dst.view.amount (.dma sem) = N from hN j]))
        iapply (Transfers.batch_creditUpdate EC (D := D) ⟨k₀ + j.val, by omega⟩ (by
          have e := hD j
          unfold entryD at e; rw [Finset.empty_union]; exact e))
        isplitr; · iexact Hinv
        iexact Hγj
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun j _ => hrow j)
    isplitr
    · isplitr; · iexact Hwm
      iexact Hinv
    iexact H3
  · iintro Hcred
    iapply Hk
    iexists γ, γ₀, κ
    isplitr; · iexact Hinv
    isplitl [Hγr]; · iexact Hγr
    isplitl [Hu]; · iexact Hu
    iapply (Entails.of_eq (show (cred (tallyAt (c, SemLoc.dma sem) ι ((k₀ + s.size hg.axis') * N - u)) : sProp 𝕄)
        = iprop(cred (tallyAt (c, SemLoc.dma sem) ι (k₀ * N - u)) ∗ cred (tallyAt (c, SemLoc.dma sem) ι (s.size hg.axis' * N))) from by
      rw [← BI.Entails.antisymm (cred_add _ _).1 (cred_add _ _).2, tallyAt_add]
      congr 2; rw [Nat.add_mul]; omega).symm)
    isplitl [Hcr] <;> iassumption

end Rule

end Cert.Proof.WmScatter

end
-- ==== Proof.Common.lean ====
/-
  What the parts of the proof share: the program as the launch theorem sees it, the resource algebra, the
  values each array holds (as functions of the launch memory), and what each SparseCore call hands its tasks.
-/
module

public import proofs.«01_k».proof.Defs
public import proofs.«01_k».proof.Proof.WmScatter
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pointwise.Index
public import Idealize.ShloMosaic.Lib.Pointwise.Reshape
public import Idealize.ShloMosaic.Lib.Tactic
public import proofs.«01_k».proof.Proof.Gen.KernelIdeal
public import proofs.«01_k».proof.Proof.Gen.KernelIdeal.Skeleton

@[expose] public section

noncomputable section

namespace Cert.Proof.Main

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 3 := sc (F := F)
theorem nSub_q (q : Fin 3) : (K (F := F)).nSub q = 16 := by match q with | 0 => rfl | 1 => rfl | 2 => rfl
theorem nCore_q (q : Fin 3) : (K (F := F)).nCore q = 2 := by match q with | 0 => rfl | 1 => rfl | 2 => rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, write mode, the counters -/

abbrev UH : Type := URounds (GSem nD τ sig) ℕ
abbrev UP : Type := URounds (GSem nD τ sig) Unit
abbrev UW (F : FTy → Type) : Type := WmRA nD τ sig (Elt F)
abbrev UU (F : FTy → Type) : Type := UH × (UP × (UW F × Counters))

local notation "𝕄" => MT nD τ sig (HIx 3) (Elt F) ℕ (UU F) ℕ

abbrev EH : Emb UH (MT nD τ sig (HIx 3) (Elt F) ℕ (UU F) ℕ) := embL
abbrev EP : Emb UP (MT nD τ sig (HIx 3) (Elt F) ℕ (UU F) ℕ) :=
  (Emb.inl.trans Emb.inr).trans (uEmb (U := UU F)).toEmb
abbrev wE : UEmb (UW F) (UU F) := ((UEmb.inl (A := UW F) (M := Counters)).trans (UEmb.inr (A := UP))).trans (UEmb.inr (A := UH))

instance EP_landsIn : (EP : Emb UP (MT nD τ sig (HIx 3) (Elt F) ℕ (UU F) ℕ)).LandsIn (upEmb : UEmb _ 𝕄) := by
  unfold EP; infer_instance

abbrev wmI (κ : ℕ) : sProp 𝕄 := wmInv (Ix := HIx 3) (Lvl := ℕ) (Name := ℕ) (wE (F := F)) κ
local notation:60 ℓ " ⇝{" q "} " f:max " ⇒ " g:max " @ " W:max => willBeTo wE ℓ Finset.univ q f g W

/-! ## The launch memory and the arrays -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev a4Loc (d : Dev nD) : Loc nD τ sig := (SparseCore.T d).loc main_arg4
abbrev a5Loc (d : Dev nD) : Loc nD τ sig := (SparseCore.T d).loc main_arg5
abbrev a6Loc (d : Dev nD) : Loc nD τ sig := (SparseCore.T d).loc main_arg6
abbrev a7Loc (d : Dev nD) : Loc nD τ sig := (SparseCore.T d).loc main_arg7
abbrev a8Loc (d : Dev nD) : Loc nD τ sig := (SparseCore.T d).loc main_arg8
abbrev b0Loc (d : Dev nD) : Loc nD τ sig := (SparseCore.T d).loc main_v0
abbrev b1Loc (d : Dev nD) : Loc nD τ sig := (SparseCore.T d).loc main_v1
abbrev b2Loc (d : Dev nD) : Loc nD τ sig := (SparseCore.T d).loc main_v2
abbrev b3Loc (d : Dev nD) : Loc nD τ sig := (SparseCore.T d).loc main_v3
abbrev b4Loc (d : Dev nD) : Loc nD τ sig := (SparseCore.T d).loc main_v4
abbrev b5Loc (d : Dev nD) : Loc nD τ sig := (SparseCore.T d).loc main_v5
abbrev b6Loc (d : Dev nD) : Loc nD τ sig := (SparseCore.T d).loc main_v6
abbrev r0Loc (d : Dev nD) : Loc nD τ sig := (SparseCore.T d).loc main_v7_0
abbrev r1Loc (d : Dev nD) : Loc nD τ sig := (SparseCore.T d).loc main_v7_1

/-! ## The values -/

/-- Node number `j` of the batch, as a row of the table. -/
def node (d : Dev nD) (j : Fin 16384) : Fin 100000 := Fin.ofNat 100000 (m (a2Loc d) (ix1 j)).toNat

/-- What the proof asks of the launch memory: every node number names a row of the table. -/
def PreOK : Prop := ∀ (d : Dev nD) (x : S16384.Idx), (m (a2Loc d) x).toNat < 100000

theorem node_val (hpre : PreOK m) (d : Dev nD) (j : Fin 16384) : (m (a2Loc d) (ix1 j)).toNat = (node m d j).val := by
  unfold node; rw [Fin.val_ofNat, Nat.mod_eq_of_lt (hpre d _)]

/-- The gathered rows. -/
def hG (d : Dev nD) : S16384x128.Idx → Elt F .f32 := fun x => m (a0Loc d) (ix2 (node m d (x 0)) (x 1))

/-- The last position naming the node that position `j` names. -/
def lastPos (d : Dev nD) (j : Fin 16384) : Fin 16384 :=
  (Finset.univ.filter fun i => node m d i = node m d j).max' ⟨j, by simp⟩

theorem node_lastPos (d : Dev nD) (j : Fin 16384) : node m d (lastPos m d j) = node m d j :=
  (Finset.mem_filter.mp (Finset.max'_mem (Finset.univ.filter fun i => node m d i = node m d j) ⟨j, by simp⟩)).2

theorem le_lastPos (d : Dev nD) {i j : Fin 16384} (h : node m d i = node m d j) : i ≤ lastPos m d j :=
  Finset.le_max' _ _ (by simp [h])

theorem lastPos_congr (d : Dev nD) {i j : Fin 16384} (h : node m d i = node m d j) : lastPos m d i = lastPos m d j :=
  le_antisymm (le_lastPos m d ((node_lastPos m d i).trans h)) (le_lastPos m d ((node_lastPos m d j).trans h.symm))

/-- The table of winners holds, at each named node, the last position naming it. -/
def PosOK (d : Dev nD) (f : S100000.Idx → Elt F .i32) : Prop :=
  ∀ j : Fin 16384, f (ix1 (node m d j)) = BitVec.ofNat 32 (lastPos m d j).val

variable [FloatOps F]

/-- The new hidden rows: row `x 0` of block `x 0 / 2048` of the GRU kernel's result. -/
def hNew (d : Dev nD) : S16384x128.Idx → Elt F .f32 := fun x =>
  k3_pay1 (fun y : S2048x256.Idx => m (a3Loc d) (ix2 ⟨2048 * ((x 0).val / 2048) + (y 0).val, by
      have h1 : (x 0).val < 16384 := (x 0).isLt
      have h2 : (y 0).val < 2048 := (y 0).isLt
      omega⟩ (y 1)))
    (fun y : S2048x128.Idx => hG m d (ix2 ⟨2048 * ((x 0).val / 2048) + (y 0).val, by
      have h1 : (x 0).val < 16384 := (x 0).isLt
      have h2 : (y 0).val < 2048 := (y 0).isLt
      omega⟩ (y 1)))
    (m (a5Loc d)) (shapeCast S1x384 (m (a7Loc d) : S384.Idx → Elt F .f32) shapeCasts_S384_S1x384)
    (m (a6Loc d)) (shapeCast S1x384 (m (a8Loc d) : S384.Idx → Elt F .f32) shapeCasts_S384_S1x384)
    (ix2 (n0 := 2048) (n1 := 128) ⟨(x 0).val % 2048, Nat.mod_lt _ (by decide)⟩ (x 1))

open Classical in
/-- The first result: at a named node, the new row at the last position naming it; elsewhere the table's. -/
def res0 (d : Dev nD) : S100000x128.Idx → Elt F .f32 := fun x =>
  if h : ∃ j : Fin 16384, node m d j = x 0 then hNew m d (ix2 (lastPos m d h.choose) (x 1)) else m (a0Loc d) x

open Classical in
/-- The second result: at a named node, the time stamp at the last position naming it; elsewhere the old one. -/
def res1 (d : Dev nD) : S100000.Idx → Elt F .f32 := fun x =>
  if h : ∃ j : Fin 16384, node m d j = x 0 then m (a4Loc d) (ix1 (lastPos m d h.choose)) else m (a1Loc d) x

theorem res0_named (d : Dev nD) (j : Fin 16384) (y : Fin 128) :
    res0 m d (ix2 (node m d j) y) = hNew m d (ix2 (lastPos m d j) y) := by
  have h : ∃ i : Fin 16384, node m d i = (ix2 (node m d j) y : S100000x128.Idx) 0 := ⟨j, rfl⟩
  unfold res0
  rw [dif_pos h, lastPos_congr m d (i := h.choose) (j := j) h.choose_spec]; rfl

theorem res1_named (d : Dev nD) (j : Fin 16384) :
    res1 m d (ix1 (node m d j)) = m (a4Loc d) (ix1 (lastPos m d j)) := by
  have h : ∃ i : Fin 16384, node m d i = (ix1 (node m d j) : S100000.Idx) 0 := ⟨j, rfl⟩
  unfold res1
  rw [dif_pos h, lastPos_congr m d (i := h.choose) (j := j) h.choose_spec]

omit [FloatOps F] in
/-- The node numbers as the scatter's tasks read them: 32 rows of 4 by 128. -/
def ids3 (d : Dev nD) : S32x4x128.Idx → Elt F .i32 :=
  shapeCast S32x4x128 (m (a2Loc d) : S16384.Idx → Elt F .i32) shapeCasts_S16384_S32x4x128

/-! ## What each call hands its tasks -/

/-- Task `(c, i)`'s number. -/
def wid (c : Fin 2) (i : Fin 16) : Fin 32 := ⟨2 * i.val + c.val, by omega⟩

/-- Share `w` of 32 of `q`. -/
abbrev sh (q : PosShare TreeShare) (w : Fin 32) : PosShare TreeShare := pieceOf q 32 (by decide) w
/-- Half `k` of the full share. -/
abbrev half (k : Fin 2) : PosShare TreeShare := pieceOf fullShare 2 (by decide) k

/-- Rows `512 w … 512 w + 511` of an array of 16384 rows. -/
def rowsSet (w : Fin 32) : Finset S16384x128.Idx := Finset.univ.filter fun x => (x 0).val / 512 = w.val

theorem mem_rowsSet {w : Fin 32} {x : S16384x128.Idx} : x ∈ rowsSet w ↔ (x 0).val / 512 = w.val := by simp [rowsSet]

/-- The elements of the first result in the rows task `w`'s positions name lie in `W`. -/
def Named0 (d : Dev nD) (w : Fin 32) (W : Finset S100000x128.Idx) : Prop :=
  ∀ j : Fin 16384, j.val / 512 = w.val → ∀ y : Fin 128, (ix2 (node m d j) y : S100000x128.Idx) ∈ W
/-- The same for the second result. -/
def Named1 (d : Dev nD) (w : Fin 32) (W : Finset S100000.Idx) : Prop :=
  ∀ j : Fin 16384, j.val / 512 = w.val → (ix1 (node m d j) : S100000.Idx) ∈ W

/-- What the TensorCore hands task `w` of call `q`. -/
def goP (q : Fin 3) (d : Dev nD) (w : Fin 32) : sProp 𝕄 :=
  match q with
  | 0 => iprop((a0Loc d ↦[Finset.univ]{sh fullShare w} m (a0Loc d)) ∗ (a2Loc d ↦[Finset.univ]{sh fullShare w} m (a2Loc d))
      ∗ (b0Loc d ↦[rowsSet w]{fullShare} m (b0Loc d)))
  | 1 => if w = 0 then iprop((a2Loc d ↦{fullShare} m (a2Loc d)) ∗ (b1Loc d ↦{fullShare} m (b1Loc d))) else iprop(emp)
  | 2 => iprop((b6Loc d ↦[Finset.univ]{sh fullShare w} ids3 m d) ∗ (a4Loc d ↦[Finset.univ]{sh (half 0) w} m (a4Loc d))
      ∗ (b5Loc d ↦[Finset.univ]{sh fullShare w} hNew m d)
      ∗ (∃ f, ⌜PosOK m d f⌝ ∗ (b1Loc d ↦[Finset.univ]{sh fullShare w} f))
      ∗ (r0Loc d ⇝{sh fullShare w} (m (a0Loc d)) ⇒ (fun x => some (res0 m d x)) @ ∅)
      ∗ (r1Loc d ⇝{sh fullShare w} (m (a1Loc d)) ⇒ (fun x => some (res1 m d x)) @ ∅))

/-- What task `w` of call `q` hands back. -/
def tdP (q : Fin 3) (d : Dev nD) (w : Fin 32) : sProp 𝕄 :=
  match q with
  | 0 => iprop((a0Loc d ↦[Finset.univ]{sh fullShare w} m (a0Loc d)) ∗ (a2Loc d ↦[Finset.univ]{sh fullShare w} m (a2Loc d))
      ∗ (b0Loc d ↦[rowsSet w]{fullShare} hG m d))
  | 1 => if w = 0 then iprop((a2Loc d ↦{fullShare} m (a2Loc d)) ∗ (∃ f, ⌜PosOK m d f⌝ ∗ (b1Loc d ↦{fullShare} f))) else iprop(emp)
  | 2 => iprop((∃ W, ⌜Named0 m d w W⌝ ∗ (r0Loc d ⇝{sh fullShare w} (m (a0Loc d)) ⇒ (fun x => some (res0 m d x)) @ W))
      ∗ (∃ W, ⌜Named1 m d w W⌝ ∗ (r1Loc d ⇝{sh fullShare w} (m (a1Loc d)) ⇒ (fun x => some (res1 m d x)) @ W)))

instance goP_storable (q d w) : BI.Storable (upEmb : UEmb _ 𝕄) (goP m q d w) :=
  match q with
  | 0 => by unfold goP; infer_instance
  | 1 => by unfold goP; by_cases h : w = 0 <;> simp only [h, if_true, if_false] <;> infer_instance
  | 2 => by unfold goP; infer_instance

instance tdP_storable (q d w) : BI.Storable (upEmb : UEmb _ 𝕄) (tdP m q d w) :=
  match q with
  | 0 => by unfold tdP; infer_instance
  | 1 => by unfold tdP; by_cases h : w = 0 <;> simp only [h, if_true, if_false] <;> infer_instance
  | 2 => by unfold tdP; infer_instance

/-- The task number of a core and subcore of call `q`. -/
def widQ (q : Fin 3) (c : Fin ((K (F := F)).nCore q)) (i : Fin ((K (F := F)).nSub q)) : Fin 32 :=
  wid (c.cast (nCore_q q)) (i.cast (nSub_q q))

abbrev P : (K (F := F)).Pay (nD := nD) (Val := Elt F) (Name := ℕ) (U := UU F) where
  st q d c := bigSep (Finset.univ : Finset (Fin ((K (F := F)).nSub q))) fun i => goP m q d (widQ q c i)
  dn q d c := bigSep (Finset.univ : Finset (Fin ((K (F := F)).nSub q))) fun i => tdP m q d (widQ q c i)
  go q d c i := goP m q d (widQ q c i)
  td q d c i := tdP m q d (widQ q c i)
  x q _ := match q with
    | 0 => iprop(emp) | 1 => iprop(emp) | 2 => iprop(∃ κ, wmI κ)

instance P_storable : (P (F := F) m).IsStorable where
  st q d c := (inferInstance : BI.Storable (upEmb : UEmb _ 𝕄) (bigSep (Finset.univ : Finset (Fin ((K (F := F)).nSub q))) fun i => goP m q d (widQ q c i)))
  dn q d c := (inferInstance : BI.Storable (upEmb : UEmb _ 𝕄) (bigSep (Finset.univ : Finset (Fin ((K (F := F)).nSub q))) fun i => tdP m q d (widQ q c i)))
  go q d c i := goP_storable m q d _
  td q d c i := tdP_storable m q d _

abbrev cV (L : grid0.Coords) : Fin τ.nSC := (L 0).castLE hcore0
abbrev jV (L : grid0.Coords) : Fin τ.nSub := (L 1).castLE hsub0
/-- The task number of grid coordinates. -/
abbrev wL (L : grid0.Coords) : Fin 32 := wid (L 0) (L 1)

def coordsV (c : Fin (grid0.bound 0)) (s : Fin (grid0.bound 1)) : grid0.Coords :=
  fun | 0 => c | 1 => s | ⟨_ + 2, h⟩ => absurd h (Nat.not_lt.2 (Nat.le_add_left _ _))

omit [FloatOps F] in
theorem obl_post {thr : Thread nD τ} {A B C : sProp 𝕄} {O : CellTallies nD τ sig (HIx 3)} {W : Waits sig (HIx 3)} {q : Fin 3} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-! ## Indirect reads at rank one and two -/

theorem rowMajor_symm_ix1 {n k : ℕ} (hk : k < n) (h : k < (⟨1, ![n]⟩ : Shape).numel) :
    (⟨1, ![n]⟩ : Shape).rowMajor.symm ⟨k, h⟩ = ix1 (n0 := n) ⟨k, hk⟩ := by
  rw [Equiv.symm_apply_eq]
  apply Fin.ext
  rw [rowMajor_val1]; rfl

theorem gathers2_idx {n z l : ℕ} (hg : (⟨2, ![z, l]⟩ : Shape).Gathers 0 ⟨2, ![n, l]⟩)
    (r : Fin n → Fin z) (x : (⟨2, ![n, l]⟩ : Shape).Idx) : hg.idx r x = ix2 (n0 := z) (n1 := l) (r (x 0)) (x 1) := by
  funext b; match b with
  | 0 => exact hg.idx_axis r x
  | 1 => exact Fin.ext (hg.idx_of_ne r x 1 Nat.one_ne_zero)

theorem gathers1_idx {n z : ℕ} (hg : (⟨1, ![z]⟩ : Shape).Gathers 0 ⟨1, ![n]⟩)
    (r : Fin n → Fin z) (x : (⟨1, ![n]⟩ : Shape).Idx) : hg.idx r x = ix1 (n0 := z) (r (x 0)) := by
  funext b; match b with
  | 0 => exact hg.idx_axis r x

theorem rows_ix1 {n z : ℕ} (idx : (⟨1, ![n]⟩ : Shape).Idx → BitVec 32) (hn : (⟨1, ![n]⟩ : Shape).numel = n)
    (h : ∀ x, (idx x).toNat < z) (k : Fin n) :
    (SparseCore.rows (F := F) idx hn h k).val = (idx (ix1 k)).toNat := by
  show (idx ((⟨1, ![n]⟩ : Shape).rowMajor.symm (k.cast hn.symm))).toNat = _
  rw [show (⟨1, ![n]⟩ : Shape).rowMajor.symm (k.cast hn.symm) = ix1 k from rowMajor_symm_ix1 k.isLt _]

end Cert.Proof.Main

end
-- ==== Proof.TcRegions.lean ====
/-
  The two TensorCore stages: the copy of the table and the gated recurrent unit, each a pipeline over its grid,
  run from the arrays they read to the array they fill.
-/
module

public import proofs.«01_k».proof.Proof.Common
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value
public import Idealize.ShloMosaic.Lib.Pipeline.ValueKit.Geometry

@[expose] public section

noncomputable section

namespace Cert.Proof.Main

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]
variable (m : (ℓ : Loc nD τ sig) → Buf (Elt F) ℓ)

local notation "𝕄" => MT nD τ sig (HIx 3) (Elt F) ℕ (UU F) ℕ

/-! ## The two bodies -/

theorem z2 : (![0, 0] : Fin 2 → ℕ) = fun _ => 0 := by funext a; fin_cases a <;> rfl

/-- A load of the whole block reads what the view reads. -/
theorem readAt_unit0 {κ : Kind} {sp : Space} {s : Shape} {e : EltTy} (v : View sig κ sp s e) (f : v.ty.Contents (Elt F))
    {off : Fin s.rank → ℕ} (inb : ∀ a, off a + s.size a ≤ s.size a) :
    v.readAt (Elt F) (Rect.unit off s.size inb).toLoadRect f = v.read (Elt F) f := by
  have h : off = fun _ => 0 := by funext a; have := inb a; omega
  subst h
  funext x
  show v.read (Elt F) f ((Rect.whole s).emb x) = v.read (Elt F) f x
  rw [Rect.emb_whole_apply]

/-- A store of the whole block leaves its payload. -/
theorem read_writes_unit0 {κ : Kind} {sp : Space} {s : Shape} {e : EltTy} (v : View sig κ sp s e) (f : v.ty.Contents (Elt F))
    {off : Fin s.rank → ℕ} (inb : ∀ a, off a + s.size a ≤ s.size a) (x : s.Idx → Elt F e) :
    v.read (Elt F) (v.writes (Elt F) f [⟨Rect.unit off s.size inb, x⟩]) = x := by
  have h : off = fun _ => 0 := by funext a; have := inb a; omega
  subst h
  exact View.read_writes_whole v f x

/-- The copy's body: the second staging buffer ends with what the first holds. -/
theorem copy_body (c : Dev nD) (i : grid2.Coords) (M0 : Memref sig .tc .vmem S10000x128 .f32) (h0 : M0.IsWhole)
    (M1 : Memref sig .tc .vmem S10000x128 .f32) (h1 : M1.IsWhole) (X : S10000x128.Idx → Elt F .f32)
    (E : Set ℕ) (Q : PUnit → sProp 𝕄) :
    iprop(owns (c : Thread nD τ) M0 fullShare X ∗ (∃ Y, owns (c : Thread nD τ) M1 fullShare Y)
        ∗ (iprop(owns (c : Thread nD τ) M0 fullShare X ∗ owns (c : Thread nD τ) M1 fullShare X) -∗ Q ⟨⟩))
      ⊢ wp frame (wpE (defs₀ (F := F)) Variants.none c none) E (cc2__copy_body i M0 h0 M1 h1) Q := by
  rw [cc2__copy_body_eq_skeleton]
  unfold cc2__copy_body_skel owns
  rw [h0.set_eq_univ, h1.set_eq_univ]
  iintro ⟨⟨%f0, %hf0, H0⟩, ⟨%Y, %f1, -, H1⟩, Hk⟩
  sl_exec!
  sl_step
  iapply Hk
  isplitl [H0]
  · iexists f0; isplitr; (· ipureintro; exact hf0); iexact H0
  · iexists _; isplitr; swap; (· iexact H1); ipureintro
    unfold copy_body.sl.H1_1
    refine (read_writes_unit0 M1.view _ inb_S10000x128_S10000x128_0_0 _).trans ?_
    exact (readAt_unit0 M0.view f0 inb_S10000x128_S10000x128_0_0).trans hf0

/-- The recurrent unit's body: the seventh staging buffer ends with the new rows of the six staged blocks. -/
theorem gru_body (c : Dev nD) (i : grid3.Coords)
    (M0 : Memref sig .tc .vmem S2048x256 .f32) (h0 : M0.IsWhole) (M1 : Memref sig .tc .vmem S2048x128 .f32) (h1 : M1.IsWhole)
    (M2 : Memref sig .tc .vmem S384x256 .f32) (h2 : M2.IsWhole) (M3 : Memref sig .tc .vmem S384x128 .f32) (h3 : M3.IsWhole)
    (M4 : Memref sig .tc .vmem S1x384 .f32) (h4 : M4.IsWhole) (M5 : Memref sig .tc .vmem S1x384 .f32) (h5 : M5.IsWhole)
    (M6 : Memref sig .tc .vmem S2048x128 .f32) (h6 : M6.IsWhole)
    (X0 : S2048x256.Idx → Elt F .f32) (X1 : S2048x128.Idx → Elt F .f32) (X2 : S384x256.Idx → Elt F .f32)
    (X3 : S384x128.Idx → Elt F .f32) (X4 X5 : S1x384.Idx → Elt F .f32)
    (E : Set ℕ) (Q : PUnit → sProp 𝕄) :
    iprop(owns (c : Thread nD τ) M0 fullShare X0 ∗ owns (c : Thread nD τ) M1 fullShare X1
        ∗ owns (c : Thread nD τ) M2 fullShare X2 ∗ owns (c : Thread nD τ) M3 fullShare X3
        ∗ owns (c : Thread nD τ) M4 fullShare X4 ∗ owns (c : Thread nD τ) M5 fullShare X5
        ∗ (∃ Y, owns (c : Thread nD τ) M6 fullShare Y)
        ∗ (iprop(owns (c : Thread nD τ) M0 fullShare X0 ∗ owns (c : Thread nD τ) M1 fullShare X1
            ∗ owns (c : Thread nD τ) M2 fullShare X2 ∗ owns (c : Thread nD τ) M3 fullShare X3
            ∗ owns (c : Thread nD τ) M4 fullShare X4 ∗ owns (c : Thread nD τ) M5 fullShare X5
            ∗ owns (c : Thread nD τ) M6 fullShare (k3_pay1 X0 X1 X2 X4 X3 X5)) -∗ Q ⟨⟩))
      ⊢ wp frame (wpE (defs₀ (F := F)) Variants.none c none) E (cc3__gru_body i M0 h0 M1 h1 M2 h2 M3 h3 M4 h4 M5 h5 M6 h6) Q := by
  rw [cc3__gru_body_eq_skeleton]
  unfold cc3__gru_body_skel owns
  rw [h0.set_eq_univ, h1.set_eq_univ, h2.set_eq_univ, h3.set_eq_univ, h4.set_eq_univ, h5.set_eq_univ, h6.set_eq_univ]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%Y, %f6, -, H6⟩, Hk⟩
  sl_exec!
  sl_step
  iapply Hk
  isplitl [H0]; · iexists f0; isplitr; (· ipureintro; exact hf0); iexact H0
  isplitl [H1]; · iexists f1; isplitr; (· ipureintro; exact hf1); iexact H1
  isplitl [H2]; · iexists f2; isplitr; (· ipureintro; exact hf2); iexact H2
  isplitl [H3]; · iexists f3; isplitr; (· ipureintro; exact hf3); iexact H3
  isplitl [H4]; · iexists f4; isplitr; (· ipureintro; exact hf4); iexact H4
  isplitl [H5]; · iexists f5; isplitr; (· ipureintro; exact hf5); iexact H5
  iexists _; isplitr; swap; (· iexact H6); ipureintro
  unfold gru_body.sl.H6_1
  refine (read_writes_unit0 M6.view _ inb_S2048x128_S2048x128_0_0 _).trans ?_
  rw [← hf0, ← hf1, ← hf2, ← hf3, ← hf4, ← hf5,
    ← readAt_unit0 M0.view f0 inb_S2048x256_S2048x256_0_0, ← readAt_unit0 M1.view f1 inb_S2048x128_S2048x128_0_0,
    ← readAt_unit0 M2.view f2 inb_S384x256_S384x256_0_0, ← readAt_unit0 M3.view f3 inb_S384x128_S384x128_0_0,
    ← readAt_unit0 M4.view f4 inb_S1x384_S1x384_0_0, ← readAt_unit0 M5.view f5 inb_S1x384_S1x384_0_0]

/-! ## The proof data -/

/-- The wait pairs a core may have recorded after two SparseCore calls. -/
abbrev rec2 (c : Dev nD) : Set (SemLoc sig × HIx 3) := {p | (K (F := F)).lev (T c, p.1) p.2 ≤ 8 * 2}

abbrev adm : (p : Fin 2) → (pcfgs (F := F) p).Adm := fun p => (cfgs p).toPCfg_adm

/-- The biases as rows. -/
abbrev bI (c : Dev nD) : S1x384.Idx → Elt F .f32 := shapeCast S1x384 (m (a7Loc c)) shapeCasts_S384_S1x384
abbrev bH (c : Dev nD) : S1x384.Idx → Elt F .f32 := shapeCast S1x384 (m (a8Loc c)) shapeCasts_S384_S1x384

/-- The copy's staged block. -/
abbrev blkC (c : Dev nD) (t : Fin cfg2.N) : S10000x128.Idx → Elt F .f32 := ((cfg2.win 0).blk t).view.read (Elt F) (m (a0Loc c))

def dat2 (c : Dev nD) : Dat τ (Elt F) (HIx 3) ℕ (UU F) ℕ cfg2 c where
  A w := match w with
    | ⟨0, _⟩ => m (a0Loc c)
    | ⟨1, _⟩ => m (b2Loc c)
  after w t := match w with
    | ⟨0, _⟩ => blkC m c t
    | ⟨1, _⟩ => blkC m c t
  Φ _ := Pipeline.scopedRest (Ix := HIx 3) (Name := ℕ) (U := UU F) (Lvl := ℕ) (Val := Elt F) spec2 c
  q _ := fullShare
  owed _ := (K (F := F)).Otc c 2
  recorded _ := rec2 (F := F) c

/-- The recurrent unit's staged blocks. -/
abbrev blk0 (c : Dev nD) (t : Fin cfg3.N) : S2048x256.Idx → Elt F .f32 := ((cfg3.win 0).blk t).view.read (Elt F) (m (a3Loc c))
abbrev blk1 (c : Dev nD) (t : Fin cfg3.N) : S2048x128.Idx → Elt F .f32 := ((cfg3.win 1).blk t).view.read (Elt F) (hG m c)
abbrev blk2 (c : Dev nD) (t : Fin cfg3.N) : S384x256.Idx → Elt F .f32 := ((cfg3.win 2).blk t).view.read (Elt F) (m (a5Loc c))
abbrev blk3 (c : Dev nD) (t : Fin cfg3.N) : S384x128.Idx → Elt F .f32 := ((cfg3.win 3).blk t).view.read (Elt F) (m (a6Loc c))
abbrev blk4 (c : Dev nD) (t : Fin cfg3.N) : S1x384.Idx → Elt F .f32 := ((cfg3.win 4).blk t).view.read (Elt F) (bI m c)
abbrev blk5 (c : Dev nD) (t : Fin cfg3.N) : S1x384.Idx → Elt F .f32 := ((cfg3.win 5).blk t).view.read (Elt F) (bH m c)
abbrev blk6 (c : Dev nD) (t : Fin cfg3.N) : S2048x128.Idx → Elt F .f32 :=
  k3_pay1 (blk0 m c t) (blk1 m c t) (blk2 m c t) (blk4 m c t) (blk3 m c t) (blk5 m c t)

def dat3 (c : Dev nD) : Dat τ (Elt F) (HIx 3) ℕ (UU F) ℕ cfg3 c where
  A w := match w with
    | ⟨0, _⟩ => m (a3Loc c)
    | ⟨1, _⟩ => hG m c
    | ⟨2, _⟩ => m (a5Loc c)
    | ⟨3, _⟩ => m (a6Loc c)
    | ⟨4, _⟩ => bI m c
    | ⟨5, _⟩ => bH m c
    | ⟨6, _⟩ => m (b5Loc c)
  after w t := match w with
    | ⟨0, _⟩ => blk0 m c t
    | ⟨1, _⟩ => blk1 m c t
    | ⟨2, _⟩ => blk2 m c t
    | ⟨3, _⟩ => blk3 m c t
    | ⟨4, _⟩ => blk4 m c t
    | ⟨5, _⟩ => blk5 m c t
    | ⟨6, _⟩ => blk6 m c t
  Φ _ := Pipeline.scopedRest (Ix := HIx 3) (Name := ℕ) (U := UU F) (Lvl := ℕ) (Val := Elt F) spec3 c
  q _ := fullShare
  owed _ := (K (F := F)).Otc c 2
  recorded _ := rec2 (F := F) c

def pdats : (p : Fin 2) → (c : Dev nD) → Dat τ (Elt F) (HIx 3) ℕ (UU F) ℕ (Pipeline.pin (pcfgs (F := F)) adm p) c
  | ⟨0, _⟩ => fun c => dat2 m c
  | ⟨1, _⟩ => fun c => dat3 m c

theorem before2_0 (c : Dev nD) (t : Fin cfg2.N) (d) : (dat2 m c).before 0 t d = blkC m c t :=
  (dat2 m c).before_in_eq_fetched 0 rfl (fun _ => rfl) (fun _ _ _ => rfl) (fun _ => rfl) t d
theorem before3_0 (c : Dev nD) (t : Fin cfg3.N) (d) : (dat3 m c).before 0 t d = blk0 m c t :=
  (dat3 m c).before_in_eq_fetched 0 rfl (fun _ => rfl) (fun _ _ _ => rfl) (fun _ => rfl) t d
theorem before3_1 (c : Dev nD) (t : Fin cfg3.N) (d) : (dat3 m c).before 1 t d = blk1 m c t :=
  (dat3 m c).before_in_eq_fetched 1 rfl (fun _ => rfl) (fun _ _ _ => rfl) (fun _ => rfl) t d
theorem before3_2 (c : Dev nD) (t : Fin cfg3.N) (d) : (dat3 m c).before 2 t d = blk2 m c t :=
  (dat3 m c).before_in_eq_fetched 2 rfl (fun _ => rfl) (fun _ _ _ => rfl) (fun _ => rfl) t d
theorem before3_3 (c : Dev nD) (t : Fin cfg3.N) (d) : (dat3 m c).before 3 t d = blk3 m c t :=
  (dat3 m c).before_in_eq_fetched 3 rfl (fun _ => rfl) (fun _ _ _ => rfl) (fun _ => rfl) t d
theorem before3_4 (c : Dev nD) (t : Fin cfg3.N) (d) : (dat3 m c).before 4 t d = blk4 m c t :=
  (dat3 m c).before_in_eq_fetched 4 rfl (fun _ => rfl) (fun _ _ _ => rfl) (fun _ => rfl) t d
theorem before3_5 (c : Dev nD) (t : Fin cfg3.N) (d) : (dat3 m c).before 5 t d = blk5 m c t :=
  (dat3 m c).before_in_eq_fetched 5 rfl (fun _ => rfl) (fun _ _ _ => rfl) (fun _ => rfl) t d

theorem copy_obligation (c : Dev nD) : BodyObligation (dat2 m c) (defs₀ (F := F)) Variants.none none Set.univ := fun t => by
  rw [bigSep_W2, bigSep_W2]
  rw [show (dat2 m c).Φ t.succ = (dat2 m c).Φ t.castSucc from rfl,
    show (dat2 m c).owesAt none t.succ = (dat2 m c).owesAt none t.castSucc from rfl]
  iintro ⟨HΦ, Howes, ⟨%d0, H0⟩, ⟨%d1, H1⟩⟩
  rw [before2_0]
  iapply (copy_body c (grid2.coords t) (win2_0.stage (cfg2.slots t 0)) (hstage2_0 ((cfg2.slots t 0).cast nbuf2_0)) (win2_1.stage (cfg2.slots t 1)) (hstage2_1 ((cfg2.slots t 1).cast nbuf2_1)) (blkC m c t) Set.univ _)
  isplitl [H0]; · iexact H0
  isplitl [H1]; · iexists _; iexact H1
  iintro ⟨H0, H1⟩
  isplitl [HΦ]; · iexact HΦ
  isplitl [Howes]; · iexact Howes
  isplitl [H0]; · iexact H0
  iexact H1

theorem gru_obligation (c : Dev nD) : BodyObligation (dat3 m c) (defs₀ (F := F)) Variants.none none Set.univ := fun t => by
  rw [bigSep_W3, bigSep_W3]
  rw [show (dat3 m c).Φ t.succ = (dat3 m c).Φ t.castSucc from rfl,
    show (dat3 m c).owesAt none t.succ = (dat3 m c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  rw [before3_0, before3_1, before3_2, before3_3, before3_4, before3_5]
  iapply (gru_body c (grid3.coords t) (win3_0.stage (cfg3.slots t 0)) (hstage3_0 ((cfg3.slots t 0).cast nbuf3_0)) (win3_1.stage (cfg3.slots t 1)) (hstage3_1 ((cfg3.slots t 1).cast nbuf3_1))
    (win3_2.stage (cfg3.slots t 2)) (hstage3_2 ((cfg3.slots t 2).cast nbuf3_2)) (win3_3.stage (cfg3.slots t 3)) (hstage3_3 ((cfg3.slots t 3).cast nbuf3_3))
    (win3_4.stage (cfg3.slots t 4)) (hstage3_4 ((cfg3.slots t 4).cast nbuf3_4)) (win3_5.stage (cfg3.slots t 5)) (hstage3_5 ((cfg3.slots t 5).cast nbuf3_5))
    (win3_6.stage (cfg3.slots t 6)) (hstage3_6 ((cfg3.slots t 6).cast nbuf3_6)) (blk0 m c t) (blk1 m c t) (blk2 m c t) (blk3 m c t) (blk4 m c t) (blk5 m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

/-! ## The arrays after the runs -/

theorem copy_final (c : Dev nD) : (dat2 m c).arrAt 1 cfg2.N = m (a0Loc c) := by
  refine (dat2 m c).arrAt_eq_of_covers 1 _ (by decide +kernel) fun t hf y => ?_
  rfl

theorem ix3_0 : ∀ t : Fin cfg3.N, win3_0.index t = ![t.val, 0] := by decide +kernel
theorem ix3_1 : ∀ t : Fin cfg3.N, win3_1.index t = ![t.val, 0] := by decide +kernel
theorem ix3_2 : ∀ t : Fin cfg3.N, win3_2.index t = ![0, 0] := by decide +kernel
theorem ix3_3 : ∀ t : Fin cfg3.N, win3_3.index t = ![0, 0] := by decide +kernel
theorem ix3_4 : ∀ t : Fin cfg3.N, win3_4.index t = ![0, 0] := by decide +kernel
theorem ix3_5 : ∀ t : Fin cfg3.N, win3_5.index t = ![0, 0] := by decide +kernel
theorem ix3_6 : ∀ t : Fin cfg3.N, win3_6.index t = ![t.val, 0] := by decide +kernel

theorem blk0_eq (c : Dev nD) (t : Fin cfg3.N) (y : S2048x256.Idx) (h : 2048 * t.val + (y 0).val < 16384) :
    blk0 m c t y = m (a3Loc c) (ix2 ⟨2048 * t.val + (y 0).val, h⟩ (y 1)) := by
  unfold blk0
  rw [View.read_apply]
  refine congrArg (m (a3Loc c)) ?_
  funext a; fin_cases a
  · apply Fin.ext; blk_simp [ix3_0]; exact congrArg (· + (y 0).val) (Nat.mul_comm _ _)
  · apply Fin.ext; blk_simp [ix3_0]; rfl

theorem blk1_eq (c : Dev nD) (t : Fin cfg3.N) (y : S2048x128.Idx) (h : 2048 * t.val + (y 0).val < 16384) :
    blk1 m c t y = hG m c (ix2 ⟨2048 * t.val + (y 0).val, h⟩ (y 1)) := by
  unfold blk1
  rw [View.read_apply]
  refine congrArg (hG m c) ?_
  funext a; fin_cases a
  · apply Fin.ext; blk_simp [ix3_1]; exact congrArg (· + (y 0).val) (Nat.mul_comm _ _)
  · apply Fin.ext; blk_simp [ix3_1]; rfl

theorem blk2_eq (c : Dev nD) (t : Fin cfg3.N) : blk2 m c t = m (a5Loc c) := by
  funext y; unfold blk2; rw [View.read_apply]
  refine congrArg (m (a5Loc c)) ?_
  funext a; fin_cases a <;> (apply Fin.ext; blk_simp [ix3_2])
theorem blk3_eq (c : Dev nD) (t : Fin cfg3.N) : blk3 m c t = m (a6Loc c) := by
  funext y; unfold blk3; rw [View.read_apply]
  refine congrArg (m (a6Loc c)) ?_
  funext a; fin_cases a <;> (apply Fin.ext; blk_simp [ix3_3])
theorem blk4_eq (c : Dev nD) (t : Fin cfg3.N) : blk4 m c t = bI m c := by
  funext y; unfold blk4; rw [View.read_apply]
  refine congrArg (bI m c) ?_
  funext a; fin_cases a <;> (apply Fin.ext; blk_simp [ix3_4])
theorem blk5_eq (c : Dev nD) (t : Fin cfg3.N) : blk5 m c t = bH m c := by
  funext y; unfold blk5; rw [View.read_apply]
  refine congrArg (bH m c) ?_
  funext a; fin_cases a <;> (apply Fin.ext; blk_simp [ix3_5])

theorem blk6_eq (c : Dev nD) (t : Fin cfg3.N) (y : S2048x128.Idx) (x : S16384x128.Idx)
    (h0 : (x 0).val = 2048 * t.val + (y 0).val) (h1 : x 1 = y 1) : blk6 m c t y = hNew m c x := by
  have hy : (y 0).val < 2048 := (y 0).isLt
  have ht : t.val < 8 := lt_of_lt_of_eq t.isLt N_3
  have hd : (x 0).val / 2048 = t.val := by omega
  unfold hNew blk6
  have e0 : blk0 m c t = fun z => m (a3Loc c) (ix2 ⟨2048 * ((x 0).val / 2048) + (z 0).val, by
      have h2 : (z 0).val < 2048 := (z 0).isLt
      omega⟩ (z 1)) := by
    funext z
    have hz : (z 0).val < 2048 := (z 0).isLt
    rw [blk0_eq m c t z (by omega)]; congr 2; apply Fin.ext; show 2048 * t.val + _ = 2048 * _ + _; rw [hd]
  have e1 : blk1 m c t = fun z => hG m c (ix2 ⟨2048 * ((x 0).val / 2048) + (z 0).val, by
      have h2 : (z 0).val < 2048 := (z 0).isLt
      omega⟩ (z 1)) := by
    funext z
    have hz : (z 0).val < 2048 := (z 0).isLt
    rw [blk1_eq m c t z (by omega)]; congr 2; apply Fin.ext; show 2048 * t.val + _ = 2048 * _ + _; rw [hd]
  rw [e0, e1, blk2_eq, blk3_eq, blk4_eq, blk5_eq]
  refine congrArg (k3_pay1 _ _ _ _ _ _) ?_
  funext a; fin_cases a
  · apply Fin.ext; show (y 0).val = (x 0).val % 2048; omega
  · exact h1.symm

theorem gru_final (c : Dev nD) : (dat3 m c).arrAt 6 cfg3.N = hNew m c := by
  refine (dat3 m c).arrAt_eq_of_covers 6 _ (by decide +kernel) fun t hf y => ?_
  blk_simp
  refine blk6_eq m c t y _ ?_ ?_
  · blk_simp [ix3_6]; omega
  · apply Fin.ext; blk_simp [ix3_6]

/-! ## The regions -/

/-- What the core owes between the second and the third SparseCore call. -/
abbrev owes2 (c : Dev nD) : sProp 𝕄 :=
  iprop(∃ W, ⌜(K (F := F)).WBelow (T c) W (8 * 2)⌝ ∗ owes (T c) ((K (F := F)).Otc c 2) W)

theorem Otc_none (c : Dev nD) (g : GSem nD τ sig) : (K (F := F)).Otc c 2 g none = 0 := by
  by_contra h
  have h1 := SparseCore.Cfg.lev_of_Otc_pos (K := K (F := F)) (N := 3) (Nat.pos_of_ne_zero h)
  exact absurd h1 (by show ¬ (_ + 1 ≤ 0); omega)

theorem waitPairs_lev (c : Dev nD) (p : Fin 2) (x : SemLoc sig × HIx 3)
    (h : x ∈ (Pipeline.pin (pcfgs (F := F)) adm p).waitPairs (none : HIx 3)) : (K (F := F)).lev (T c, x.1) x.2 ≤ 8 * 2 := by
  obtain ⟨w, s, rfl⟩ := h
  exact Nat.zero_le _

theorem owes_in (c : Dev nD) (p : Fin 2) : owes2 (F := F) c ⊢ (pdats m p c).owesAt (none : HIx 3) 0 := by
  unfold Pipeline.Dat.owesAt Pipeline.owesWithin
  iintro ⟨%W, %hW, HO⟩
  match p with
  | 0 => iexists W; isplitr; (· ipureintro; exact fun x hx => Or.inl (hW x hx)); iexact HO
  | 1 => iexists W; isplitr; (· ipureintro; exact fun x hx => Or.inl (hW x hx)); iexact HO

theorem owes_out (c : Dev nD) (p : Fin 2) : (pdats m p c).owesAt (none : HIx 3) (Fin.last _) ⊢ owes2 (F := F) c := by
  unfold Pipeline.Dat.owesAt Pipeline.owesWithin
  iintro ⟨%W, %hW, HO⟩
  match p with
  | 0 => iexists W; isplitr; (· ipureintro; exact fun x hx => (hW hx).elim id fun h => waitPairs_lev c 0 x h); iexact HO
  | 1 => iexists W; isplitr; (· ipureintro; exact fun x hx => (hW hx).elim id fun h => waitPairs_lev c 1 x h); iexact HO

theorem arrays2_eq (c : Dev nD) (G : (w : Fin cfg2.W) → Buf (Elt F) ((cfg2.win w).arr.view.loc (c.tc : Thread nD τ))) :
    (dat2 m c).arrays G = iprop((a0Loc c ↦{fullShare} (G 0 : Buf (Elt F) (a0Loc c))) ∗ (b2Loc c ↦{fullShare} (G 1 : Buf (Elt F) (b2Loc c)))) := by
  unfold Pipeline.Dat.arrays
  rw [bigSep_W2, (arr_whole2 0).set_eq_univ, (arr_whole2 1).set_eq_univ]
  rfl

theorem arrays3_eq (c : Dev nD) (G : (w : Fin cfg3.W) → Buf (Elt F) ((cfg3.win w).arr.view.loc (c.tc : Thread nD τ))) :
    (dat3 m c).arrays G = iprop((a3Loc c ↦{fullShare} (G 0 : Buf (Elt F) (a3Loc c))) ∗ (b0Loc c ↦{fullShare} (G 1 : Buf (Elt F) (b0Loc c)))
      ∗ (a5Loc c ↦{fullShare} (G 2 : Buf (Elt F) (a5Loc c))) ∗ (a6Loc c ↦{fullShare} (G 3 : Buf (Elt F) (a6Loc c)))
      ∗ (b3Loc c ↦{fullShare} (G 4 : Buf (Elt F) (b3Loc c))) ∗ (b4Loc c ↦{fullShare} (G 5 : Buf (Elt F) (b4Loc c)))
      ∗ (b5Loc c ↦{fullShare} (G 6 : Buf (Elt F) (b5Loc c)))) := by
  unfold Pipeline.Dat.arrays
  rw [bigSep_W3, (arr_whole3 0).set_eq_univ, (arr_whole3 1).set_eq_univ, (arr_whole3 2).set_eq_univ, (arr_whole3 3).set_eq_univ,
    (arr_whole3 4).set_eq_univ, (arr_whole3 5).set_eq_univ, (arr_whole3 6).set_eq_univ]
  rfl

set_option backward.isDefEq.respectTransparency.types false in
/-- The copy of the table. -/
def regCopy : Pipeline.RegionSeg (pcfgs (F := F)) adm (pdats m) (none : HIx 3) defs₀ Variants.none (K (F := F)).L (K (F := F)).lev 0 where
  win := launch2.win.to₀
  block_pos := launch2.block_pos
  stage_whole := launch2.stage_whole
  K := PEmpty
  osem k := k.elim
  ho := Pipeline.OwnSemFacts.none _
  hbody c := (copy_obligation m c).loose
  hwaits c := Pipeline.cellsWaits_intro (Pipeline.pin (pcfgs (F := F)) adm) (pdats m) (none : HIx 3) 0 c
    fun w s t => (K (F := F)).mayWait_none (thr := T c) (SemLoc.dma _) (Otc_none c)
  pre c := iprop((a0Loc c ↦{fullShare} m (a0Loc c)) ∗ (b2Loc c ↦{fullShare} m (b2Loc c)) ∗ owes2 (F := F) c)
  post c := iprop((a0Loc c ↦{fullShare} m (a0Loc c)) ∗ (b2Loc c ↦{fullShare} (m (a0Loc c) : Buf (Elt F) (b2Loc c))) ∗ owes2 (F := F) c)
  X _ := BI.emp
  Y _ := BI.emp
  Z _ := BI.emp
  hentry c := by
    rw [Pipeline.ownSems0_none, show (pdats m 0 c).arrays ((pdats m 0 c).arrAt · 0) = _ from arrays2_eq m c _]
    iintro ⟨⟨H0, H1, HO⟩, -, -⟩
    imodintro
    isplitl [H0 H1]
    · isplitl [H0]; · iexact H0
      iexact H1
    isplitr; · unfold Pipeline.prefHeld; rw [show (Finset.univ : Finset (Fin 0)) = ∅ from rfl, BI.bigSep_empty]; iempintro
    isplitl [HO]; · iapply (owes_in m c 0); iexact HO
    isplitr <;> iempintro
  hin c := by
    rw [show (pdats m 0 c).Φ 0 = Pipeline.scopedRest spec2 c from rfl]
    iintro ⟨-, -, Hr⟩; iexact Hr
  hout c := by
    rw [Pipeline.ownSems0_none, show (pdats m 0 c).Φ (Fin.last _) = Pipeline.scopedRest spec2 c from rfl]
    iintro Hr
    isplitr; · iempintro
    isplitr; · iempintro
    iexact Hr
  hexit c := by
    rw [show (pdats m 0 c).arrays ((pdats m 0 c).arrAt · (Pipeline.pin (pcfgs (F := F)) adm 0).N) = _ from arrays2_eq m c _]
    rw [show (pdats m 0 c).arrAt 1 (Pipeline.pin (pcfgs (F := F)) adm 0).N = _ from copy_final m c,
      show (pdats m 0 c).arrAt 0 (Pipeline.pin (pcfgs (F := F)) adm 0).N = _ from (dat2 m c).arrAt_in 0 rfl _]
    iintro ⟨⟨H0, H1⟩, HO, -, -⟩
    imodintro
    isplitl [H0]; · iexact H0
    isplitl [H1]; · iexact H1
    iapply (owes_out m c 0); iexact HO

set_option backward.isDefEq.respectTransparency.types false in
/-- The gated recurrent unit. -/
def regGru : Pipeline.RegionSeg (pcfgs (F := F)) adm (pdats m) (none : HIx 3) defs₀ Variants.none (K (F := F)).L (K (F := F)).lev 1 where
  win := launch3.win.to₀
  block_pos := launch3.block_pos
  stage_whole := launch3.stage_whole
  K := PEmpty
  osem k := k.elim
  ho := Pipeline.OwnSemFacts.none _
  hbody c := (gru_obligation m c).loose
  hwaits c := Pipeline.cellsWaits_intro (Pipeline.pin (pcfgs (F := F)) adm) (pdats m) (none : HIx 3) 1 c
    fun w s t => (K (F := F)).mayWait_none (thr := T c) (SemLoc.dma _) (Otc_none c)
  pre c := iprop((a3Loc c ↦{fullShare} m (a3Loc c)) ∗ (b0Loc c ↦{fullShare} hG m c)
      ∗ (a5Loc c ↦{fullShare} m (a5Loc c)) ∗ (a6Loc c ↦{fullShare} m (a6Loc c))
      ∗ (b3Loc c ↦{fullShare} (bI m c : Buf (Elt F) (b3Loc c))) ∗ (b4Loc c ↦{fullShare} (bH m c : Buf (Elt F) (b4Loc c)))
      ∗ (b5Loc c ↦{fullShare} m (b5Loc c)) ∗ owes2 (F := F) c)
  post c := iprop((a3Loc c ↦{fullShare} m (a3Loc c)) ∗ (b0Loc c ↦{fullShare} hG m c)
      ∗ (a5Loc c ↦{fullShare} m (a5Loc c)) ∗ (a6Loc c ↦{fullShare} m (a6Loc c))
      ∗ (b3Loc c ↦{fullShare} (bI m c : Buf (Elt F) (b3Loc c))) ∗ (b4Loc c ↦{fullShare} (bH m c : Buf (Elt F) (b4Loc c)))
      ∗ (b5Loc c ↦{fullShare} hNew m c) ∗ owes2 (F := F) c)
  X _ := BI.emp
  Y _ := BI.emp
  Z _ := BI.emp
  hentry c := by
    rw [Pipeline.ownSems0_none, show (pdats m 1 c).arrays ((pdats m 1 c).arrAt · 0) = _ from arrays3_eq m c _]
    iintro ⟨⟨H0, H1, H2, H3, H4, H5, H6, HO⟩, -, -⟩
    imodintro
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitr; · unfold Pipeline.prefHeld; rw [show (Finset.univ : Finset (Fin 0)) = ∅ from rfl, BI.bigSep_empty]; iempintro
    isplitl [HO]; · iapply (owes_in m c 1); iexact HO
    isplitr <;> iempintro
  hin c := by
    rw [show (pdats m 1 c).Φ 0 = Pipeline.scopedRest spec3 c from rfl]
    iintro ⟨-, -, Hr⟩; iexact Hr
  hout c := by
    rw [Pipeline.ownSems0_none, show (pdats m 1 c).Φ (Fin.last _) = Pipeline.scopedRest spec3 c from rfl]
    iintro Hr
    isplitr; · iempintro
    isplitr; · iempintro
    iexact Hr
  hexit c := by
    rw [show (pdats m 1 c).arrays ((pdats m 1 c).arrAt · (Pipeline.pin (pcfgs (F := F)) adm 1).N) = _ from arrays3_eq m c _]
    rw [show (pdats m 1 c).arrAt 6 (Pipeline.pin (pcfgs (F := F)) adm 1).N = _ from gru_final m c,
      show (pdats m 1 c).arrAt 0 (Pipeline.pin (pcfgs (F := F)) adm 1).N = _ from (dat3 m c).arrAt_in 0 rfl _,
      show (pdats m 1 c).arrAt 1 (Pipeline.pin (pcfgs (F := F)) adm 1).N = _ from (dat3 m c).arrAt_in 1 rfl _,
      show (pdats m 1 c).arrAt 2 (Pipeline.pin (pcfgs (F := F)) adm 1).N = _ from (dat3 m c).arrAt_in 2 rfl _,
      show (pdats m 1 c).arrAt 3 (Pipeline.pin (pcfgs (F := F)) adm 1).N = _ from (dat3 m c).arrAt_in 3 rfl _,
      show (pdats m 1 c).arrAt 4 (Pipeline.pin (pcfgs (F := F)) adm 1).N = _ from (dat3 m c).arrAt_in 4 rfl _,
      show (pdats m 1 c).arrAt 5 (Pipeline.pin (pcfgs (F := F)) adm 1).N = _ from (dat3 m c).arrAt_in 5 rfl _]
    iintro ⟨⟨H0, H1, H2, H3, H4, H5, H6⟩, HO, -, -⟩
    imodintro
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (owes_out m c 1); iexact HO

end Cert.Proof.Main

end
-- ==== Proof.Deal.lean ====
/-
  What the TensorCore hands the three SparseCore calls and gets back: the arrays whole against the tasks' parts of
  them. The launch element of the ghost state, and two host operations run on the arrays they name.
-/
module

public import proofs.«01_k».proof.Proof.TcRegions
public import Idealize.ShloMosaic.Lib.SparseCore.Quiescent
public import Idealize.ShloMosaic.Lib.StableHlo.Run

@[expose] public section

noncomputable section

namespace Cert.Proof.Main

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (cellsGhost toksInit pin)

variable {F : FTy → Type} [FloatOps F]
variable (m : (ℓ : Loc nD τ sig) → Buf (Elt F) ℓ)

local notation "𝕄" => MT nD τ sig (HIx 3) (Elt F) ℕ (UU F) ℕ
local notation:60 ℓ " ⇝{" q "} " f:max " ⇒ " g:max " @ " W:max => willBeTo wE ℓ Finset.univ q f g W

/-! ## A SparseCore call's tasks, numbered -/

/-- Cores and subcores against task numbers. -/
def widEquiv : Fin 2 × Fin 16 ≃ Fin 32 where
  toFun p := wid p.1 p.2
  invFun w := (⟨w.val % 2, by omega⟩, ⟨w.val / 2, by omega⟩)
  left_inv p := by
    refine Prod.ext (Fin.ext ?_) (Fin.ext ?_)
    · show (2 * p.2.val + p.1.val) % 2 = p.1.val; omega
    · show (2 * p.2.val + p.1.val) / 2 = p.2.val; omega
  right_inv w := Fin.ext (by show 2 * (w.val / 2) + w.val % 2 = w.val; omega)

theorem bigSep_wid (Φ : Fin 32 → sProp 𝕄) :
    (bigSep Finset.univ fun c : Fin 2 => bigSep Finset.univ fun i : Fin 16 => Φ (wid c i)) = bigSep Finset.univ Φ := by
  rw [bigSep_univ_equiv widEquiv Φ, ← Finset.univ_product_univ,
    SparseCore.bigSep_product Finset.univ Finset.univ fun a : Fin 2 × Fin 16 => Φ (widEquiv a)]
  rfl

theorem bigSep_widQ (q : Fin 3) (Φ : Fin 32 → sProp 𝕄) :
    (bigSep Finset.univ fun c : Fin ((K (F := F)).nCore q) => bigSep Finset.univ fun i : Fin ((K (F := F)).nSub q) => Φ (widQ q c i))
      = bigSep Finset.univ Φ :=
  match q with
  | 0 => bigSep_wid Φ
  | 1 => bigSep_wid Φ
  | 2 => bigSep_wid Φ

theorem st_eq (q : Fin 3) (d : Dev nD) :
    (bigSep Finset.univ fun c : Fin ((K (F := F)).nCore q) => (P m).st q d c) = bigSep Finset.univ fun w => goP m q d w :=
  bigSep_widQ q (goP m q d)
theorem dn_eq (q : Fin 3) (d : Dev nD) :
    (bigSep Finset.univ fun c : Fin ((K (F := F)).nCore q) => (P m).dn q d c) = bigSep Finset.univ fun w => tdP m q d w :=
  bigSep_widQ q (tdP m q d)

theorem vecSplit (q : Fin 3) : (K (F := F)).VecSplit' (P m) q := by
  intro d c
  show iprop(bigSep Finset.univ fun i : Fin ((K (F := F)).nSub q) => goP m q d (widQ q c i)) ⊢ |={Set.univ}=> iprop(
      (bigSep Finset.univ fun i : Fin ((K (F := F)).nSub q) => goP m q d (widQ q c i))
      ∗ ((bigSep Finset.univ fun i : Fin ((K (F := F)).nSub q) => tdP m q d (widQ q c i))
          -∗ (bigSep Finset.univ fun i : Fin ((K (F := F)).nSub q) => tdP m q d (widQ q c i))))
  iintro H; imodintro
  isplitl [H]; · iexact H
  iintro H; iexact H

/-! ## Arrays whole against their parts -/

theorem pts_shares {ℓ : Loc nD τ sig} (q : PosShare TreeShare) (f : Buf (Elt F) ℓ) :
    (bigSep Finset.univ fun w : Fin 32 => ℓ ↦[Finset.univ]{sh q w} f) = (ℓ ↦[Finset.univ]{q} f : sProp 𝕄) :=
  (pointsTo_piecesOf Finset.univ f (show 0 < 32 by decide) q).symm

theorem rows_cover : (Finset.univ : Finset (Fin 32)).biUnion rowsSet = Finset.univ := by
  ext x
  have h : (x 0).val < 16384 := (x 0).isLt
  simp only [Finset.mem_biUnion, Finset.mem_univ, true_and, iff_true]
  exact ⟨⟨(x 0).val / 512, by omega⟩, mem_rowsSet.mpr rfl⟩

theorem rows_disjoint : ∀ i ∈ (Finset.univ : Finset (Fin 32)), ∀ j ∈ (Finset.univ : Finset (Fin 32)), i ≠ j → Disjoint (rowsSet i) (rowsSet j) :=
  fun i _ j _ h => Finset.disjoint_left.mpr fun x hi hj => h (Fin.ext ((mem_rowsSet.mp hi).symm.trans (mem_rowsSet.mp hj)))

theorem b0_rows (d : Dev nD) (f : Buf (Elt F) (b0Loc d)) :
    (bigSep Finset.univ fun w : Fin 32 => b0Loc d ↦[rowsSet w]{fullShare} f) = (b0Loc d ↦{fullShare} f : sProp 𝕄) := by
  rw [← pointsTo_biUnion Finset.univ (ℓ := b0Loc d) rowsSet rows_disjoint]
  exact congrArg (fun I => (b0Loc d ↦[I]{fullShare} f : sProp 𝕄)) rows_cover

theorem bigSep_none {I : Type} (s : Finset I) : (bigSep s fun _ => iprop(emp)) = (iprop(emp) : sProp 𝕄) := bigSep_emp_const s

theorem bigSep_first (X : sProp 𝕄) :
    (bigSep Finset.univ fun w : Fin 32 => if w = 0 then X else iprop(emp)) = X := by
  rw [bigSep_univ_succ (Ix := HIx 3) (Name := ℕ) (U := UU F) (Lvl := ℕ)]
  simp only [if_true, Fin.succ_ne_zero, if_false]
  rw [bigSep_none]
  refine BI.Entails.antisymm (?_ : (iprop(X ∗ emp) : sProp 𝕄) ⊢ X) (?_ : X ⊢ (iprop(X ∗ emp) : sProp 𝕄))
  · iintro ⟨H, -⟩; iexact H
  · iintro H; isplitl [H]
    · iexact H
    · iempintro

theorem go0_eq (d : Dev nD) : (bigSep Finset.univ fun w => goP m 0 d w)
    = (iprop((a0Loc d ↦{fullShare} m (a0Loc d)) ∗ (a2Loc d ↦{fullShare} m (a2Loc d)) ∗ (b0Loc d ↦{fullShare} m (b0Loc d))) : sProp 𝕄) := by
  unfold goP
  rw [bigSep_sep', bigSep_sep', pts_shares, pts_shares, b0_rows]

theorem td0_eq (d : Dev nD) : (bigSep Finset.univ fun w => tdP m 0 d w)
    = (iprop((a0Loc d ↦{fullShare} m (a0Loc d)) ∗ (a2Loc d ↦{fullShare} m (a2Loc d)) ∗ (b0Loc d ↦{fullShare} hG m d)) : sProp 𝕄) := by
  unfold tdP
  rw [bigSep_sep', bigSep_sep', pts_shares, pts_shares]
  exact congrArg (fun X : sProp 𝕄 => (iprop((a0Loc d ↦{fullShare} m (a0Loc d)) ∗ (a2Loc d ↦{fullShare} m (a2Loc d)) ∗ X) : sProp 𝕄))
    (b0_rows d (hG m d))

theorem go1_eq (d : Dev nD) : (bigSep Finset.univ fun w => goP m 1 d w)
    = (iprop((a2Loc d ↦{fullShare} m (a2Loc d)) ∗ (b1Loc d ↦{fullShare} m (b1Loc d))) : sProp 𝕄) :=
  bigSep_first _

theorem td1_eq (d : Dev nD) : (bigSep Finset.univ fun w => tdP m 1 d w)
    = (iprop((a2Loc d ↦{fullShare} m (a2Loc d)) ∗ (∃ f, ⌜PosOK m d f⌝ ∗ (b1Loc d ↦{fullShare} f))) : sProp 𝕄) :=
  bigSep_first _

/-- What the third call's tasks are handed, out of the arrays. -/
theorem go2_intro (d : Dev nD) (f : Buf (Elt F) (b1Loc d)) (hf : PosOK m d f) :
    (iprop((b6Loc d ↦{fullShare} (ids3 m d : Buf (Elt F) (b6Loc d))) ∗ (a4Loc d ↦[Finset.univ]{half 0} m (a4Loc d))
      ∗ (b5Loc d ↦{fullShare} (hNew m d : Buf (Elt F) (b5Loc d))) ∗ (b1Loc d ↦{fullShare} f)
      ∗ (r0Loc d ⇝{fullShare} (m (a0Loc d)) ⇒ (fun x => some (res0 m d x)) @ ∅)
      ∗ (r1Loc d ⇝{fullShare} (m (a1Loc d)) ⇒ (fun x => some (res1 m d x)) @ ∅)) : sProp 𝕄)
      ⊢ bigSep Finset.univ fun w => goP m 2 d w := by
  unfold goP
  rw [bigSep_sep', bigSep_sep', bigSep_sep', bigSep_sep', bigSep_sep']
  iintro ⟨H6, H4, H5, H1, H7, H8⟩
  isplitl [H6]
  · ihave H := (Entails.of_eq (pts_shares fullShare (ids3 m d : Buf (Elt F) (b6Loc d))).symm) $$ H6
    iexact H
  isplitl [H4]
  · ihave H := (Entails.of_eq (pts_shares (half 0) (m (a4Loc d))).symm) $$ H4
    iexact H
  isplitl [H5]
  · ihave H := (Entails.of_eq (pts_shares fullShare (hNew m d : Buf (Elt F) (b5Loc d))).symm) $$ H5
    iexact H
  isplitl [H1]
  · ihave H := (Entails.of_eq (pts_shares fullShare f).symm) $$ H1
    have hm : (bigSep (Finset.univ : Finset (Fin 32)) fun w => b1Loc d ↦[Finset.univ]{sh fullShare w} f : sProp 𝕄)
        ⊢ bigSep (Finset.univ : Finset (Fin 32)) fun w => iprop(∃ f, ⌜PosOK m d f⌝ ∗ (b1Loc d ↦[Finset.univ]{sh fullShare w} f)) :=
      bigSep_mono fun w _ => by
        show (b1Loc d ↦[Finset.univ]{sh fullShare w} f : sProp 𝕄) ⊢ iprop(∃ f, ⌜PosOK m d f⌝ ∗ (b1Loc d ↦[Finset.univ]{sh fullShare w} f))
        iintro H; iexists f; isplitr
        · ipureintro; exact hf
        · iexact H
    ihave H' := hm $$ H
    iexact H'
  isplitl [H7]
  · ihave H := (Entails.of_eq (WmScatter.willBeTo_piecesOf_empty wE (ℓ := r0Loc d) Finset.univ (m (a0Loc d)) (fun x => some (res0 m d x))
      (show 0 < 32 by decide) fullShare)) $$ H7
    iexact H
  · ihave H := (Entails.of_eq (WmScatter.willBeTo_piecesOf_empty wE (ℓ := r1Loc d) Finset.univ (m (a1Loc d)) (fun x => some (res1 m d x))
      (show 0 < 32 by decide) fullShare)) $$ H8
    iexact H

/-- Shares named by each task's own set join to the whole, named by a set that serves them all. -/
theorem will_gather {ℓ : Loc nD τ sig} (f : Buf (Elt F) ℓ) (g : Tgt (Elt F) ℓ) (N : Fin 32 → Finset (Idx ℓ) → Prop) :
    (bigSep Finset.univ fun w : Fin 32 => iprop(∃ W, ⌜N w W⌝ ∗ (ℓ ⇝{sh fullShare w} f ⇒ g @ W)))
      ⊢ (iprop(∃ W : Fin 32 → Finset (Idx ℓ), ⌜∀ w, N w (W w)⌝ ∗ (ℓ ⇝{fullShare} f ⇒ g @ (Finset.univ.biUnion W))) : sProp 𝕄) := by
  refine (bigSep_exists_pi Finset.univ fun (w : Fin 32) (W : Finset (Idx ℓ)) => iprop(⌜N w W⌝ ∗ (ℓ ⇝{sh fullShare w} f ⇒ g @ W))).trans ?_
  iintro ⟨%W, H⟩
  ihave H' := (bigSep_pure_sep Finset.univ (fun w => N w (W w)) fun w : Fin 32 => (ℓ ⇝{sh fullShare w} f ⇒ g @ (W w) : sProp 𝕄)) $$ H
  icases H' with ⟨%hN, H⟩
  iexists W; isplitr
  · ipureintro; exact fun w => hN w (Finset.mem_univ w)
  · ihave H' := (Entails.of_eq (WmScatter.willBeTo_piecesOf wE Finset.univ f g (show 0 < 32 by decide) fullShare W)) $$ H
    iexact H'

theorem res0_piecewise (d : Dev nD) (W : Fin 32 → Finset S100000x128.Idx) (hW : ∀ w, Named0 m d w (W w)) :
    (Finset.univ.biUnion W).piecewise (res0 m d) (m (a0Loc d) : S100000x128.Idx → Elt F .f32) = res0 m d := by
  funext x
  by_cases hx : x ∈ Finset.univ.biUnion W
  · exact Finset.piecewise_eq_of_mem _ _ _ hx
  · rw [Finset.piecewise_eq_of_notMem _ _ _ hx]
    unfold res0
    rw [dif_neg]
    rintro ⟨j, hj⟩
    refine hx (Finset.mem_biUnion.mpr ⟨⟨j.val / 512, by omega⟩, Finset.mem_univ _, ?_⟩)
    have h := hW ⟨j.val / 512, by omega⟩ j rfl (x 1)
    rwa [hj, ← eq_ix2 x] at h

theorem res1_piecewise (d : Dev nD) (W : Fin 32 → Finset S100000.Idx) (hW : ∀ w, Named1 m d w (W w)) :
    (Finset.univ.biUnion W).piecewise (res1 m d) (m (a1Loc d) : S100000.Idx → Elt F .f32) = res1 m d := by
  funext x
  by_cases hx : x ∈ Finset.univ.biUnion W
  · exact Finset.piecewise_eq_of_mem _ _ _ hx
  · rw [Finset.piecewise_eq_of_notMem _ _ _ hx]
    unfold res1
    rw [dif_neg]
    rintro ⟨j, hj⟩
    refine hx (Finset.mem_biUnion.mpr ⟨⟨j.val / 512, by omega⟩, Finset.mem_univ _, ?_⟩)
    have h := hW ⟨j.val / 512, by omega⟩ j rfl
    rwa [hj, ← eq_ix1 x] at h

/-- What the third call's tasks hand back, at the write mode's invariant: the two results. -/
theorem td2_elim (d : Dev nD) (κ : ℕ) :
    (iprop(wmI κ ∗ bigSep Finset.univ fun w => tdP m 2 d w) : sProp 𝕄)
      ⊢ |={Set.univ}=> iprop((r0Loc d ↦{fullShare} (res0 m d : Buf (Elt F) (r0Loc d))) ∗ (r1Loc d ↦{fullShare} (res1 m d : Buf (Elt F) (r1Loc d)))) := by
  unfold tdP
  rw [bigSep_sep']
  iintro ⟨#Hwm, H0, H1⟩
  ihave H0' := (will_gather (ℓ := r0Loc d) (m (a0Loc d)) (fun x => some (res0 m d x)) (Named0 m d)) $$ H0
  ihave H1' := (will_gather (ℓ := r1Loc d) (m (a1Loc d)) (fun x => some (res1 m d x)) (Named1 m d)) $$ H1
  icases H0' with ⟨%W0, %hW0, H0⟩
  icases H1' with ⟨%W1, %hW1, H1⟩
  imod (willBeTo_castOut_some (emb := wE (F := F)) (ιwm := κ) (ℓ := r0Loc d) (I := Finset.univ) (f := m (a0Loc d)) (g := res0 m d) (E := Set.univ)
    (W := Finset.univ.biUnion W0) (Set.mem_univ _)) $$ [H0] with H0
  · isplitr; · iexact Hwm
    iexact H0
  imod (willBeTo_castOut_some (emb := wE (F := F)) (ιwm := κ) (ℓ := r1Loc d) (I := Finset.univ) (f := m (a1Loc d)) (g := res1 m d) (E := Set.univ)
    (W := Finset.univ.biUnion W1) (Set.mem_univ _)) $$ [H1] with H1
  · isplitr; · iexact Hwm
    iexact H1
  imodintro
  isplitl [H0]
  · ihave H := (Entails.of_eq (congrArg (fun f : Buf (Elt F) (r0Loc d) => (r0Loc d ↦{fullShare} f : sProp 𝕄)) (res0_piecewise m d W0 hW0))) $$ H0
    iexact H
  · ihave H := (Entails.of_eq (congrArg (fun f : Buf (Elt F) (r1Loc d) => (r1Loc d ↦{fullShare} f : sProp 𝕄)) (res1_piecewise m d W1 hW1))) $$ H1
    iexact H

/-! ## The launch element of the ghost state -/

theorem pin_inj : Function.Injective (Pipeline.cellOf (nD := nD) (τ := τ) (pin (pcfgs (F := F)) adm)) := cellOf_inj

def u₀ : UU F :=
  (initOf (K (F := F)).hsCells (K (F := F)).hsToks,
    (initOf (Pipeline.cells (pin (pcfgs (F := F)) adm) pin_inj) (Pipeline.launchToks (pin (pcfgs (F := F)) adm) pin_inj),
      (wm₀ nD τ sig (Elt F), 1)))

/-- What @main is dealt besides the arrays: the two pipelines' cells and tokens, and the write mode's invariant. -/
def G (d : Dev nD) : sProp 𝕄 :=
  iprop((bigSep Finset.univ fun p : Fin 2 => cellsGhost (pin (pcfgs (F := F)) adm) EP p d)
    ∗ (bigSep Finset.univ fun p : Fin 2 => toksInit (pin (pcfgs (F := F)) adm) EP p d) ∗ ∃ κ, wmI κ)

theorem x_intro (κ : ℕ) (thr : Thread nD τ) :
    (iprop(wmI κ ∗ emp) : sProp 𝕄) ⊢ bigSep Finset.univ fun q : Fin 3 => (P m).x q thr := by
  rw [bigSep_univ_succ (Ix := HIx 3) (Name := ℕ) (U := UU F) (Lvl := ℕ), bigSep_univ_succ (Ix := HIx 3) (Name := ℕ) (U := UU F) (Lvl := ℕ),
    bigSep_univ_succ (Ix := HIx 3) (Name := ℕ) (U := UU F) (Lvl := ℕ)]
  simp only [Finset.univ_eq_empty, BI.bigSep_empty]
  show (iprop(wmI κ ∗ emp) : sProp 𝕄) ⊢ iprop(emp ∗ emp ∗ (∃ κ, wmI κ) ∗ emp)
  iintro ⟨#H, -⟩
  isplitr; · iempintro
  isplitr; · iempintro
  isplitr
  · iexists κ; iexact H
  · iempintro

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 3 => (P m).x q thr) := by
  unfold u₀ G
  rw [bigSep_sep', bigSep_sep']
  iintro Hu
  ihave H := (ownU_pair (initOf (K (F := F)).hsCells (K (F := F)).hsToks)
    ((initOf (Pipeline.cells (pin (pcfgs (F := F)) adm) pin_inj) (Pipeline.launchToks (pin (pcfgs (F := F)) adm) pin_inj),
      (wm₀ nD τ sig (Elt F), 1)) : UP × (UW F × Counters))) $$ Hu
  icases H with ⟨HH, H⟩
  ihave H := (own_pair_emb embR (initOf (Pipeline.cells (pin (pcfgs (F := F)) adm) pin_inj) (Pipeline.launchToks (pin (pcfgs (F := F)) adm) pin_inj))
      ((wm₀ nD τ sig (Elt F), 1) : UW F × Counters)) $$ H
  icases H with ⟨HP, H⟩
  ihave H := (own_pair_emb ((Emb.inr : Emb (UW F × Counters) (UP × (UW F × Counters))).trans embR) (wm₀ nD τ sig (Elt F)) (1 : Counters)) $$ H
  icases H with ⟨HW, -⟩
  ihave HW := (Entails.of_eq (show (BI.own (((Emb.inl : Emb (UW F) (UW F × Counters)).trans
    ((Emb.inr : Emb (UW F × Counters) (UP × (UW F × Counters))).trans (embR (A := UH)))) (wm₀ nD τ sig (Elt F))) : sProp 𝕄)
      = ownU (wE (F := F) (wm₀ nD τ sig (Elt F))) from rfl)) $$ HW
  imod (Pipeline.fund_ghost (pin (pcfgs (F := F)) adm) EP pin_inj) $$ [HP] with ⟨Hg, Ht⟩
  · iexact HP
  imod (wmInv_alloc (emb := wE (F := F)) (Name := ℕ) (Ix := HIx 3) (Lvl := ℕ) ⟨m, fun _ => 0, fun _ => default⟩ ∅ (E := Set.univ)) $$ [HW] with ⟨%κ, -, #Hwm⟩
  · iexact HW
  imodintro
  isplitl [HH]; · iexact HH
  isplitl [Hg Ht]
  · isplitl [Hg]; · iexact Hg
    isplitl [Ht]; · iexact Ht
    rw [bigSep_univ_of_subsingleton (0 : Dev nD)]
    iexists κ; iexact Hwm
  · ihave H := (Transfers.bigSep_mono_pers Finset.univ (wmI κ) (fun _ : Thread nD τ => (iprop(emp) : sProp 𝕄))
      (fun thr => bigSep Finset.univ fun q : Fin 3 => (P m).x q thr) fun thr _ => x_intro m κ thr) $$ []
    · isplitr; · iexact Hwm
      rw [bigSep_none]; iempintro
    iexact H

/-! ## A host operation from one array to another -/

include m in
open Classical in
/-- An operation on two arrays that writes the second: the first kept, the second at the operation's value. -/
theorem wp_host (d : Dev nD) (x y : Ref sig .tc) (hxy : (Proc.devRef .tc x : DevRef τ sig) ≠ Proc.devRef .tc y)
    {hp : (SparseCore.T d : Thread nD τ).2.kind.runsHlo = true} {op : HloOp τ sig (Elt F)}
    (hb : op.bufs = {(Proc.devRef .tc x : DevRef τ sig), (Proc.devRef .tc y : DevRef τ sig)}) (hf : op.fresh = ∅)
    (fx : Buf (Elt F) ((SparseCore.T d).loc x)) (fy g : Buf (Elt F) ((SparseCore.T d).loc y))
    (hx : ∀ V : Valuation τ sig (Elt F), op.result V (Proc.devRef .tc x) = V (Proc.devRef .tc x))
    (hy : ∀ V : Valuation τ sig (Elt F), V (Proc.devRef .tc x) = fx → op.result V (Proc.devRef .tc y) = g)
    {Q : PUnit → sProp 𝕄} :
    (iprop(boundary (SparseCore.T d) ∗ ((SparseCore.T d).loc x ↦{fullShare} fx) ∗ ((SparseCore.T d).loc y ↦{fullShare} fy)
        ∗ ((boundary (SparseCore.T d) ∗ ((SparseCore.T d).loc x ↦{fullShare} fx) ∗ ((SparseCore.T d).loc y ↦{fullShare} g)) -∗ Q ⟨⟩)) : sProp 𝕄)
      ⊢ wp frame (wpE ((K (F := F)).defs (D (F := F))) 𝒱 (SparseCore.T d) none) Set.univ (hlo hp op fun _ => .ret ⟨⟩) Q := by
  let V₀ : Valuation τ sig (Elt F) := fun b => m (d, b)
  let V : Valuation τ sig (Elt F) := Function.update (Function.update V₀ (Proc.devRef .tc y) fy) (Proc.devRef .tc x) fx
  have hVx : V (Proc.devRef .tc x) = fx := Function.update_self ..
  have hVy : V (Proc.devRef .tc y) = fy := by
    show Function.update (Function.update V₀ (Proc.devRef .tc y) fy) (Proc.devRef .tc x) fx (Proc.devRef .tc y) = fy
    rw [Function.update_of_ne hxy.symm, Function.update_self]
  have hh (W : Valuation τ sig (Elt F)) : (StableHlo.held (SparseCore.T d) op.bufs W : sProp 𝕄)
      = iprop(((SparseCore.T d).loc x ↦{fullShare} W (Proc.devRef .tc x)) ∗ ((SparseCore.T d).loc y ↦{fullShare} W (Proc.devRef .tc y))) := by
    unfold StableHlo.held
    rw [hb, SparseCore.bigSep_insert' (by simpa using hxy), bigSep_singleton]
  have h := StableHlo.wp_hlo_within (defs := (K (F := F)).defs (D (F := F))) 𝒱 (SparseCore.T d) none Set.univ (hp := hp) (op := op)
    (k := fun _ => .ret PUnit.unit) (S := op.bufs) (Finset.Subset.refl _) (V := V) (Q := Q) hf
  rw [hh, hh, hx, hy V hVx, hVx, hVy] at h
  iintro ⟨Hb, Hx, Hy, Hk⟩
  iapply h $$ [Hb Hx Hy]
  · isplitl [Hb]; · iexact Hb
    isplitl [Hx]; · iexact Hx
    iexact Hy
  iintro ⟨Hb, Hx, Hy⟩
  rw [wp_ret]
  imodintro
  iapply Hk
  isplitl [Hb]; · iexact Hb
  isplitl [Hx]; · iexact Hx
  iexact Hy

end Cert.Proof.Main

end
-- ==== Proof.GatherTile.lean ====
/-
  The task of the gather call: task `w` fetches its 512 node numbers, gathers their rows of the table, and writes them
  to rows `512 w …` of the gathered array.
-/
module

public import proofs.«01_k».proof.Proof.Common

@[expose] public section

noncomputable section

namespace Cert.Proof.Main

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 3) (Elt F) ℕ (UU F) ℕ

variable (m : (ℓ : Loc nD τ sig) → Buf (Elt F) ℓ)

namespace Gather

local notation "tV" => (Memref.whole main_arg0_scv : Memref Cert.KernelIdeal.sig Kind.scVector Space.hbm S100000x128 EltTy.f32)
local notation "iV" => (Memref.whole main_arg2_scv : Memref Cert.KernelIdeal.sig Kind.scVector Space.hbm S16384 EltTy.i32)
local notation "oV" => (Memref.whole main_v0_scv : Memref Cert.KernelIdeal.sig Kind.scVector Space.hbm S16384x128 EltTy.f32)
local notation "sV" => (Memref.whole cc0_scratch0 : Memref Cert.KernelIdeal.sig Kind.scVector Space.vmem S512 EltTy.i32)
local notation "rV" => (Memref.whole cc0_scratch1 : Memref Cert.KernelIdeal.sig Kind.scVector Space.vmem S512x128 EltTy.f32)

variable (d : Dev nD) (L : grid0.Coords)

theorem off1_eq : ∀ (c : Fin 2) (i : Fin 16), k0_off1 (coordsV c i) 0 = 512 * (2 * i.val + c.val) := by decide
theorem off2_eq : ∀ (c : Fin 2) (i : Fin 16), k0_off2 (coordsV c i) 0 = 512 * (2 * i.val + c.val) ∧ k0_off2 (coordsV c i) 1 = 0 := by decide

theorem coords_eta : L = coordsV (L 0) (L 1) := by
  funext a; match a with | 0 => rfl | 1 => rfl

abbrev irowK : Rect S16384 := Rect.unit (s := S16384) (k0_off1 L) S512.size (k0_off1_inb L)
abbrev orowK : Rect S16384x128 := Rect.unit (s := S16384x128) (k0_off2 L) S512x128.size (k0_off2_inb L)
abbrev iRowK : Memref sig .scVector .hbm S512 .i32 := (iV).slice (irowK L) (fun _ => rfl)
abbrev oRowK : Memref sig .scVector .hbm S512x128 .f32 := (oV).slice (orowK L) (fun _ => rfl)
abbrev tAllK : Memref sig .scVector .hbm S100000x128 .f32 := (tV).slice (Rect.unit (s := S100000x128) ![0, 0] S100000x128.size inb_S100000x128_S100000x128_0_0) (fun _ => rfl)

theorem set_oRowK : (oRowK L).view.set = rowsSet (wL L) := by
  ext x
  rw [mem_rowsSet]
  show x ∈ ((View.whole (main_v0_scv : Ref sig .scVector)).slice (orowK L)).set ↔ _
  rw [View.set_slice_whole, Rect.mem_set_unit]
  have h := off2_eq (L 0) (L 1); rw [← coords_eta] at h
  have h0 : (wL L).val = 2 * (L 1).val + (L 0).val := rfl
  have hx : (x 1).val < 128 := (x 1).isLt
  have e : S512x128.size 0 = 512 := rfl
  have e' : S512x128.size 1 = 128 := rfl
  constructor
  · intro hh; have := hh 0; rw [h.1, e] at this; omega
  · intro hh a; match a with
    | 0 => rw [h.1, e]; omega
    | 1 => rw [h.2, e']; omega

theorem pts_oRowK (f : Buf (Elt F) (b0Loc d)) :
    ((oRowK L).view.loc (V d (cV L) (jV L)) ↦[(oRowK L).view.set]{fullShare} f : sProp 𝕄) = b0Loc d ↦[rowsSet (wL L)]{fullShare} f := by
  rw [set_oRowK]

abbrev cA (d : Dev nD) (c : Fin τ.nSC) (i : Fin τ.nSub) : GSem nD τ sig := (V d c i, .dma cc0_scratch2.sem)
abbrev cB (d : Dev nD) (c : Fin τ.nSC) (i : Fin τ.nSub) : GSem nD τ sig := (V d c i, .dma cc0_scoped0.sem)
abbrev cC (d : Dev nD) (c : Fin τ.nSC) (i : Fin τ.nSub) : GSem nD τ sig := (V d c i, .dma cc0_scoped1.sem)

theorem ownSems0_V :
    (ownSems0 (V d (cV L) (jV L)) : sProp 𝕄)
      = iprop(semVal (cA d (cV L) (jV L)) 0 ∗ semVal (cB d (cV L) (jV L)) 0 ∗ semVal (cC d (cV L) (jV L)) 0
          ∗ bigSep ((((ownCells (V d (cV L) (jV L))).erase (cA d (cV L) (jV L))).erase (cB d (cV L) (jV L))).erase (cC d (cV L) (jV L))) fun g => semVal g 0) := by
  unfold SparseCore.Cfg.ownSems0
  rw [SparseCore.bigSep_erase' ((mem_ownCells (g := cA d (cV L) (jV L))).mpr ⟨rfl, by
      show (SemLoc.dma cc0_scratch2.sem : SemLoc sig).isScoped .scVector = true; decide⟩),
    SparseCore.bigSep_erase' (Finset.mem_erase.mpr ⟨by simp [cA, cB]; decide, (mem_ownCells (g := cB d (cV L) (jV L))).mpr ⟨rfl, by
      show (SemLoc.dma cc0_scoped0.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d (cV L) (jV L))).mpr ⟨rfl, by show (SemLoc.dma cc0_scoped1.sem : SemLoc sig).isScoped .scVector = true; decide⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- Position `k` of task `w`'s 512. -/
def posOf (w : Fin 32) (k : Fin 512) : Fin 16384 := ⟨512 * w.val + k.val, by omega⟩

theorem iRow_read (k : Fin 512) :
    (iRowK L).view.read (Elt F) (m (a2Loc d)) (ix1 k) = m (a2Loc d) (ix1 (posOf (wL L) k)) := by
  rw [show (iRowK L).view.read (Elt F) (m (a2Loc d)) (ix1 k) = m (a2Loc d) ((iRowK L).view.emb (ix1 k)) from (View.read_apply _ _).trans (cast_eq _ _)]
  congr 1
  funext a; match a with
  | 0 =>
    apply Fin.ext
    show k0_off1 L 0 + 1 * k.val = 512 * (2 * (L 1).val + (L 0).val) + k.val
    have h := off1_eq (L 0) (L 1); rw [← coords_eta] at h
    rw [h]; omega

theorem inb_of_pre (hpre : PreOK m) (fs : Buf (Elt F) ((V d (cV L) (jV L)).loc cc0_scratch0)) (pay : S512.Idx → Elt F .i32)
    (hpay : pay = (iRowK L).view.read (Elt F) (m (a2Loc d))) :
    ∀ x, ((sV).view.read (Elt F) (View.write (Elt F) (sV).view fs pay Finset.univ) x).toNat < S100000x128.size gathers_S100000x128_S512x128.axis := by
  subst hpay; intro x
  rw [View.write_whole_univ]
  simp only [Memref.view_whole, View.read_whole]
  obtain ⟨k, rfl⟩ : ∃ k : Fin 512, x = (ix1 k : S512.Idx) := ⟨x 0, (ix1_eta x).symm⟩
  exact (congrArg BitVec.toNat (iRow_read m d L k)).trans_lt (hpre d _)

theorem emb_oRowK (k : Fin 512) (y : Fin 128) :
    (oRowK L).view.emb (ix2 k y) = (ix2 (posOf (wL L) k) y : S16384x128.Idx) := by
  have h := off2_eq (L 0) (L 1); rw [← coords_eta] at h
  funext a; match a with
  | 0 =>
    apply Fin.ext
    show k0_off2 L 0 + 1 * k.val = 512 * (2 * (L 1).val + (L 0).val) + k.val
    rw [h.1]; omega
  | 1 =>
    apply Fin.ext
    show k0_off2 L 1 + 1 * y.val = y.val
    rw [h.2]; omega

/-- What the task leaves in its rows of the gathered array is the gathered rows. -/
theorem out_value (hpre : PreOK m) (fs : Buf (Elt F) ((V d (cV L) (jV L)).loc cc0_scratch0))
    (fr : Buf (Elt F) ((V d (cV L) (jV L)).loc cc0_scratch1)) (pay : S512.Idx → Elt F .i32)
    (hpay : pay = (iRowK L).view.read (Elt F) (m (a2Loc d))) (hin) (out : S512x128.Idx → Elt F .f32)
    (hout : out = (rV).view.read (Elt F) ((rV).view.write (Elt F) fr (SparseCore.gatherPayload gathers_S100000x128_S512x128
      ((tAllK).view.read (Elt F) (m (a0Loc d)))
      (SparseCore.rows ((sV).view.read (Elt F) (View.write (Elt F) (sV).view fs pay Finset.univ)) rfl hin)) Finset.univ)) :
    ∀ x ∈ rowsSet (wL L), (oRowK L).view.writes (Elt F) (m (b0Loc d)) [⟨Rect.whole S512x128, out⟩] x = hG m d x := by
  intro x hx
  rw [mem_rowsSet] at hx
  have hx0 : (x 0).val < 16384 := (x 0).isLt
  obtain ⟨k, y, rfl⟩ : ∃ (k : Fin 512) (y : Fin 128), x = ix2 (posOf (wL L) k) y :=
    ⟨⟨(x 0).val % 512, Nat.mod_lt _ (by decide)⟩, x 1, by
      rw [show posOf (wL L) ⟨(x 0).val % 512, Nat.mod_lt _ (by decide)⟩ = x 0 from
        Fin.ext (by show 512 * (wL L).val + (x 0).val % 512 = (x 0).val; rw [← hx]; omega)]
      exact (ix2_eta x).symm⟩
  have he : ((oRowK L).view.slice (Rect.whole S512x128)).emb (ix2 k y) = (ix2 (posOf (wL L) k) y : S16384x128.Idx) :=
    (congrArg (oRowK L).view.emb (Rect.emb_whole_apply (s := S512x128) (ix2 k y))).trans (emb_oRowK L k y)
  rw [← he, View.writes_singleton, View.write_emb_of_mem _ _ (Finset.mem_univ _), he]
  rw [hout, View.read_write_univ]
  refine (cast_eq _ _).trans ?_
  refine (congrArg ((tAllK).view.read (Elt F) (m (a0Loc d))) (gathers2_idx gathers_S100000x128_S512x128 _ (ix2 k y))).trans ?_
  refine ((View.read_apply _ _).trans (cast_eq _ _)).trans ?_
  refine congrArg (m (a0Loc d)) ?_
  have hn := node_val m hpre d (posOf (wL L) k)
  funext a; match a with
  | 0 =>
    apply Fin.ext
    refine (Nat.zero_add _).trans ((Nat.one_mul _).trans ((rows_ix1 (F := F) _ rfl hin k).trans (Eq.trans ?_ hn)))
    refine congrArg BitVec.toNat ?_
    rw [View.write_whole_univ]
    simp only [Memref.view_whole, View.read_whole]
    rw [hpay]; exact iRow_read m d L k
  | 1 =>
    apply Fin.ext
    exact (Nat.zero_add _).trans (Nat.one_mul _)

theorem defs₀_vector (c : Fin τ.nSC) (s : Fin τ.nSub) :
    defs₀ (F := F) (.scVector c s) 0 ()
      = SparseCore.onTile hcore0 hsub0 (fun c s => cc0__sc_gather (coordsV c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

set_option maxRecDepth 16384 in
set_option maxHeartbeats 4000000 in
theorem tile_body (hF : (K (F := F)).Facts) (hpre : PreOK m) (O : CellTallies nD τ sig (HIx 3)) (W : Waits sig (HIx 3)) (hO : ∀ g, O g none = 0) :
    iprop(levAts (K (F := F)).L (K (F := F)).lev ∗ emp ∗ goP m 0 d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather L tV (Memref.isWhole_whole _) iV (Memref.isWhole_whole _) oV (Memref.isWhole_whole _)
            sV (Memref.isWhole_whole _) rV (Memref.isWhole_whole _) cc0_scratch2 cc0_scoped0 cc0_scoped1)
          fun _ => iprop(tdP m 0 d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_eq_skeleton]; unfold cc0__sc_gather_skel
  rw [(K (F := F)).scopedBufs_V hF d (cV L) (jV L), SparseCore.Cfg.scopedSems0_V (Val := Elt F) d (cV L) (jV L), ownSems0_V, ownBufs_V]
  simp only [goP, tdP]
  iintro ⟨#Hlv, -, ⟨Ht, Hi, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 3) O from
    (K (F := F)).mayWaits_none (thr := V d (cV L) (jV L)) hO) $$ Hlv
  ihave Ho' := (Entails.of_eq (pts_oRowK (F := F) d L _).symm) $$ Ho
  ihave Hi' := (Entails.of_eq (show (a2Loc d ↦[Finset.univ]{sh fullShare (wL L)} m (a2Loc d) : sProp 𝕄) = ((iV).view.loc (V d (cV L) (jV L)) ↦[Finset.univ]{sh fullShare (wL L)} m (a2Loc d)) from rfl)) $$ Hi
  ihave Hx' := (Entails.of_eq (show (a0Loc d ↦[Finset.univ]{sh fullShare (wL L)} m (a0Loc d) : sProp 𝕄) = ((tV).view.loc (V d (cV L) (jV L)) ↦[Finset.univ]{sh fullShare (wL L)} m (a0Loc d)) from rfl)) $$ Ht
  ihave Hs' := (Entails.of_eq (show ((V d (cV L) (jV L)).loc cc0_scratch0 ↦{fullShare} fs : sProp 𝕄) = ((sV).view.loc (V d (cV L) (jV L)) ↦{fullShare} fs) from rfl)) $$ Hs
  ihave Hr' := (Entails.of_eq (show ((V d (cV L) (jV L)).loc cc0_scratch1 ↦{fullShare} fr : sProp 𝕄) = ((rV).view.loc (V d (cV L) (jV L)) ↦{fullShare} fr) from rfl)) $$ Hr
  sl_exec
  ihave Hxs := (pointsTo_split_subset (q := sh fullShare (wL L)) (f := m (a0Loc d)) (S := Finset.univ) (Finset.subset_univ (tAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 m d L) Finset.univ : sProp 𝕄)
      = (sV).view.loc (V d (cV L) (jV L)) ↦[(sV).view.set]{fullShare} View.write (Elt F) (sV).view fs (tile_body.sl.dma0 m d L) Finset.univ
      by rw [hss])) $$ Hs'
  have hN : ∀ h : S100000x128.Gathers 0 S512x128, ∑ j, ((rV).slice (S512x128.rowRect h.axis' j) (S512x128.stride_rowRect h.axis' j)).view.dmaCredit
      = (rV).view.dmaCredit := by decide
  iapply (SparseCore.wp_indirectGatherLocal countersEmb 𝒱₀ (V d (cV L) (jV L)) none (hg := gathers_S100000x128_S512x128) (default : HIx 3)
      (rV).view.dmaCredit (hN _) (by decide) (inb_of_pre m d L hpre fs _ rfl)) $$ [Hxs Hr'' Hs'' HsemA]
  · isplitl [Hxs]; · iexact Hxs
    isplitl [Hr'']; · iexact Hr''
    isplitl [Hs'']; · iexact Hs''
    iexact HsemA
  iintro Hfl
  sl_exec
  iapply (Transfers.wp_waitLocalO countersEmb 𝒱₀ (V d (cV L) (jV L)) none (default : HIx 3) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemA, HO⟩
  ihave Hx' := (pointsTo_split_subset (q := sh fullShare (wL L)) (f := m (a0Loc d)) (S := Finset.univ) (Finset.subset_univ (tAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Hx' Ho']
  · isplitl [Hx']; · iexact Hx'
    isplitl [Hi']; · iexact Hi'
    iapply (Entails.of_eq (pts_oRowK (F := F) d L (hG m d)))
    have hh : tile_body.sl.dma0_1 m d L hpre fs fr = (rV).view.read (Elt F) ((rV).view.write (Elt F) fr (SparseCore.gatherPayload gathers_S100000x128_S512x128
        ((tAllK).view.read (Elt F) (m (a0Loc d)))
        (SparseCore.rows ((sV).view.read (Elt F) (View.write (Elt F) (sV).view fs ((iRowK L).view.read (Elt F) (m (a2Loc d))) Finset.univ)) rfl
          (inb_of_pre m d L hpre fs _ rfl))) Finset.univ) := by
      unfold tile_body.sl.dma0_1; rfl
    have hv := out_value m d L hpre fs fr _ rfl _ _ hh
    iapply (Entails.of_eq (pointsTo_congr (ℓ := b0Loc d) (q := fullShare) (show ∀ x ∈ (oRowK L).view.set, _ from fun x hx => hv x (set_oRowK L ▸ hx)))) $$ Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Gather

end Cert.Proof.Main

end
-- ==== Proof.ArbTile.lean ====
/-
  The task of the arbitration call: task 0 fetches all node numbers and, sixteen positions at a time, stores each
  position at the node it names, so that the last position naming a node is what the table of winners ends with; the
  other tasks do nothing.
-/
module

public import proofs.«01_k».proof.Proof.Common

@[expose] public section

noncomputable section

namespace Cert.Proof.Main

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 3) (Elt F) ℕ (UU F) ℕ

variable (m : (ℓ : Loc nD τ sig) → Buf (Elt F) ℓ)

namespace Arb

local notation "iV" => (Memref.whole main_arg2_scv : Memref Cert.KernelIdeal.sig Kind.scVector Space.hbm S16384 EltTy.i32)
local notation "oV" => (Memref.whole main_v1_scv : Memref Cert.KernelIdeal.sig Kind.scVector Space.hbm S100000 EltTy.i32)
local notation "pV" => (Memref.whole cc1_scratch0 : Memref Cert.KernelIdeal.sig Kind.scVector Space.vmem S100000 EltTy.i32)
local notation "sV" => (Memref.whole cc1_scratch1 : Memref Cert.KernelIdeal.sig Kind.scVector Space.vmem S16384 EltTy.i32)

variable (d : Dev nD) (L : grid0.Coords)

/-! ## Values -/

/-- After the first `n` positions: a node's entry is the last of them naming it. -/
def PosUpTo (n : ℕ) (f : S100000.Idx → BitVec 32) : Prop :=
  ∀ i : Fin 16384, i.val < n → (∀ i' : Fin 16384, i < i' → i'.val < n → node m d i' ≠ node m d i) →
    f (ix1 (node m d i)) = BitVec.ofNat 32 i.val

theorem posOK_of (f : S100000.Idx → BitVec 32) (h : PosUpTo m d 16384 f) : PosOK m d f := by
  intro j
  rw [← node_lastPos m d j]
  exact h _ (lastPos m d j).isLt fun i' hlt _ he => absurd (le_lastPos m d (he.trans (node_lastPos m d j))) (not_le.mpr hlt)

theorem posUpTo_succ (n : Fin 16384) (f g : S100000.Idx → BitVec 32) (h : PosUpTo m d n.val f)
    (hg : ∀ j : Fin 100000, g (ix1 j) = if j = node m d n then BitVec.ofNat 32 n.val else f (ix1 j)) : PosUpTo m d (n.val + 1) g := by
  intro i hi hmax
  rw [hg]
  by_cases he : node m d i = node m d n
  · rw [if_pos he]
    by_cases hin : i = n
    · rw [hin]
    · have : i < n := lt_of_le_of_ne (Fin.le_def.mpr (by omega)) hin
      exact absurd he.symm (hmax n this (by omega))
  · rw [if_neg he]
    have : i.val ≠ n.val := fun e => he (by rw [Fin.ext e])
    exact h i (by omega) fun i' hlt hi' => hmax i' hlt (by omega)

theorem foldl_finRange {α : Type} : ∀ (n : ℕ) (step : α → Fin n → α) (I : ℕ → α → Prop) (a : α), I 0 a →
    (∀ (k : Fin n) (b : α), I k.val b → I (k.val + 1) (step b k)) → I n ((List.finRange n).foldl step a)
  | 0, _, _, _, h0, _ => by simpa using h0
  | n + 1, step, I, a, h0, hs => by
    rw [List.finRange_succ, List.foldl_cons, List.foldl_map]
    exact foldl_finRange n (fun b k => step b k.succ) (fun k => I (k + 1)) (step a 0) (hs 0 a h0) fun k b hb => hs k.succ b hb

theorem off1_eq (k : Fin k1_t1_loop.trips) : k1_off1 k 0 = 16 * k.val := by
  have h : k.val < 1024 := k.isLt
  unfold k1_off1
  simp only [Scalar.muli, Scalar.addi, Scalar.indexCast, Scf.iv, IntOp.muli, IntOp.addi]
  generalize k.val = n at h
  simp
  omega

theorem pay1_eq (k : Fin k1_t1_loop.trips) (l : Fin 16) : k1_pay1 k (ix1 l) = BitVec.ofNat 32 (16 * k.val + l.val) := by
  have h : k.val < 1024 := k.isLt
  unfold k1_pay1
  simp only [Scalar.muli, Scalar.addi, Scf.iv, addi, broadcast, iota, IntOp.muli, IntOp.addi]
  generalize k.val = n at h
  apply BitVec.eq_of_toNat_eq
  simp
  omega

/-- One trip's scatter takes the table from the first `16 k` positions to the first `16 k + 16`. -/
theorem storeIdx_step (hpre : PreOK m) (k : Fin k1_t1_loop.trips) (f : S100000.Idx → Elt F .i32) (v : S16.Idx → Elt F .i32)
    (hv : ∀ l : Fin 16, v (ix1 l) = m (a2Loc d) (ix1 ⟨16 * k.val + l.val, by have h : k.val < 1024 := k.isLt; omega⟩))
    (hin : ∀ a x, ((![v] : Fin 1 → IVec S16 32) a x).toNat < S100000.size a) (h : PosUpTo m d (16 * k.val) f) :
    PosUpTo m d (16 * (k.val + 1)) (storeIdx (F := F) (s := S100000) (e := .i32) f ![v] (k1_pay1 k) (fun _ => 1#1) false hin) := by
  unfold storeIdx
  refine foldl_finRange 16 _ (fun l g => PosUpTo m d (16 * k.val + l) g) f h fun l g hg => ?_
  have hk : k.val < 1024 := k.isLt
  refine posUpTo_succ m d ⟨16 * k.val + l.val, by omega⟩ g _ hg fun j => ?_
  have hx : ∀ x : S16.Idx, idxAt (s := S100000) ![v] hin x = ix1 (⟨(v x).toNat, hin 0 x⟩ : Fin 100000) := fun x => by
    funext a; match a with | 0 => rfl
  have hl : (Shape.ofLane (d := ![16]) l : S16.Idx) = ix1 l := by funext a; match a with | 0 => rfl
  refine (congrFun (if_pos (show ((1#1 : BitVec 1) = 1) from rfl)) (ix1 j)).trans ?_
  have hn := node_val m hpre d ⟨16 * k.val + l.val, by omega⟩
  rw [← hv l] at hn
  have hy : idxAt (s := S100000) ![v] hin (Shape.ofLane (d := ![16]) l) = ix1 (⟨(v (ix1 l)).toNat, hin 0 (ix1 l)⟩ : Fin 100000) :=
    (congrArg _ hl).trans (hx _)
  have hp : k1_pay1 k (Shape.ofLane (d := ![16]) l) = BitVec.ofNat 32 (16 * k.val + l.val) := (congrArg _ hl).trans (pay1_eq k l)
  by_cases he : j = node m d ⟨16 * k.val + l.val, by omega⟩
  · rw [if_pos he]
    refine (if_pos fun a => ?_).trans hp
    refine Eq.trans ?_ (congrArg (fun i : S100000.Idx => (i a).val) hy).symm
    match a with
    | 0 => show j.val = (v (ix1 l)).toNat; rw [hn, he]
  · rw [if_neg he]
    refine if_neg fun hh => he (Fin.ext ?_)
    exact (hh 0).trans ((congrArg (fun i : S100000.Idx => (i 0).val) hy).trans hn)

/-! ## The task -/

theorem cond_eq : ∀ (c : Fin 2) (i : Fin 16), k1_cond1 (coordsV c i) = 1#1 ↔ wid c i = 0 := by decide

theorem coords_eta : L = coordsV (L 0) (L 1) := by
  funext a; match a with | 0 => rfl | 1 => rfl

abbrev cA (d : Dev nD) (c : Fin τ.nSC) (i : Fin τ.nSub) : GSem nD τ sig := (V d c i, .dma cc1_scoped0.sem)
abbrev cB (d : Dev nD) (c : Fin τ.nSC) (i : Fin τ.nSub) : GSem nD τ sig := (V d c i, .dma cc1_scoped1.sem)

theorem ownSems0_V :
    (ownSems0 (V d (cV L) (jV L)) : sProp 𝕄)
      = iprop(semVal (cA d (cV L) (jV L)) 0 ∗ semVal (cB d (cV L) (jV L)) 0
          ∗ bigSep (((ownCells (V d (cV L) (jV L))).erase (cA d (cV L) (jV L))).erase (cB d (cV L) (jV L))) fun g => semVal g 0) := by
  unfold SparseCore.Cfg.ownSems0
  rw [SparseCore.bigSep_erase' ((mem_ownCells (g := cA d (cV L) (jV L))).mpr ⟨rfl, by
      show (SemLoc.dma cc1_scoped0.sem : SemLoc sig).isScoped .scVector = true; decide⟩),
    SparseCore.bigSep_erase' (Finset.mem_erase.mpr ⟨by simp [cA, cB]; decide, (mem_ownCells (g := cB d (cV L) (jV L))).mpr ⟨rfl, by
      show (SemLoc.dma cc1_scoped1.sem : SemLoc sig).isScoped .scVector = true; decide⟩⟩)]

theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- The loop's invariant: the fetched node numbers, and the table of winners of the positions so far. -/
def inv (k : Nat) (_ : PUnit) : sProp 𝕄 :=
  iprop(((sV).view.loc (V d (cV L) (jV L)) ↦{fullShare} m (a2Loc d))
    ∗ (∃ f, ⌜PosUpTo m d (16 * k) f⌝ ∗ ((pV).view.loc (V d (cV L) (jV L)) ↦{fullShare} f)))

omit [FloatOps F] in
/-- Trip `k` loads the node numbers of positions `16 k …`. -/
theorem ids_at (k : Fin k1_t1_loop.trips) (L : grid0.Coords) (hc : k1_cond1 L = 1#1) (l : Fin 16) :
    View.readAt (Elt F) (sV).view (Rect.unit (s := S16384) (k1_off1 k) S16.size (k1_off1_inb L k hc)).toLoadRect (m (a2Loc d)) (ix1 l)
      = m (a2Loc d) (ix1 ⟨16 * k.val + l.val, by have h : k.val < 1024 := k.isLt; omega⟩) := by
  refine ((View.read_apply _ _).trans (cast_eq _ _)).trans (congrArg (m (a2Loc d)) ?_)
  funext a; match a with
  | 0 =>
    apply Fin.ext
    show k1_off1 k 0 + 1 * l.val = 16 * k.val + l.val
    rw [off1_eq]; omega

theorem pts_pV_whole (f : S100000.Idx → Elt F .i32) :
    (((pV).access (.whole S100000)).loc (V d (cV L) (jV L)) ↦[((pV).access (.whole S100000)).set]{fullShare} f : sProp 𝕄)
      = ((pV).view.loc (V d (cV L) (jV L)) ↦{fullShare} f) := by
  rw [show ((pV).access (.whole S100000)).set = Finset.univ from Memref.set_access_whole (cc1_scratch0 : Ref sig .scVector)]

set_option maxHeartbeats 4000000 in
theorem body_one (hc : k1_cond1 L = 1#1) (hF : (K (F := F)).Facts) (hpre : PreOK m) (O : CellTallies nD τ sig (HIx 3)) (W : Waits sig (HIx 3)) (hO : ∀ g, O g none = 0) :
    iprop(levAts (K (F := F)).L (K (F := F)).lev ∗ emp ∗ goP m 1 d 0
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_arb L iV (Memref.isWhole_whole _) oV (Memref.isWhole_whole _)
            pV (Memref.isWhole_whole _) sV (Memref.isWhole_whole _) cc1_scoped0 cc1_scoped1)
          fun _ => iprop(tdP m 1 d 0
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_arb_eq_skeleton]; unfold cc1__sc_arb_skel
  rw [(K (F := F)).scopedBufs_V hF d (cV L) (jV L), SparseCore.Cfg.scopedSems0_V (Val := Elt F) d (cV L) (jV L), ownSems0_V, ownBufs_V]
  simp only [goP, tdP, if_true]
  iintro ⟨#Hlv, -, ⟨Hi, Ho⟩, ⟨⟨%fp, Hp⟩, ⟨%fs, Hs⟩, Hbufs⟩, ⟨HsemA, HsemB, Hsems⟩, HO⟩
  ihave Hmw := (show levAts (K (F := F)).L (K (F := F)).lev ⊢ Transfers.MayWaits (V d (cV L) (jV L)) (default : HIx 3) O from
    (K (F := F)).mayWaits_none (thr := V d (cV L) (jV L)) hO) $$ Hlv
  ihave Hi' := (Entails.of_eq (show (a2Loc d ↦{fullShare} m (a2Loc d) : sProp 𝕄) = ((iV).view.loc (V d (cV L) (jV L)) ↦{fullShare} m (a2Loc d)) from rfl)) $$ Hi
  ihave Ho' := (Entails.of_eq (show (b1Loc d ↦{fullShare} m (b1Loc d) : sProp 𝕄) = ((oV).view.loc (V d (cV L) (jV L)) ↦{fullShare} m (b1Loc d)) from rfl)) $$ Ho
  ihave Hp' := (Entails.of_eq (show ((V d (cV L) (jV L)).loc cc1_scratch0 ↦{fullShare} fp : sProp 𝕄) = ((pV).view.loc (V d (cV L) (jV L)) ↦{fullShare} fp) from rfl)) $$ Hp
  ihave Hs' := (Entails.of_eq (show ((V d (cV L) (jV L)).loc cc1_scratch1 ↦{fullShare} fs : sProp 𝕄) = ((sV).view.loc (V d (cV L) (jV L)) ↦{fullShare} fs) from rfl)) $$ Hs
  sl_exec
  sl_for (inv m d L) $$ [Hs' Hp']
  case region =>
    intro k _
    unfold inv
    iintro ⟨Hs, %f, %hf, Hp⟩
    sl_exec
    have hv := ids_at (F := F) m d k
    have hck : k1_chk1 L (View.readAt (Elt F) (sV).view (Rect.unit (s := S16384) (k1_off1 k) S16.size (k1_off1_inb L k hc)).toLoadRect (m (a2Loc d))) :=
      fun _ a x => by
        match a with
        | 0 =>
          rw [← ix1_eta x]
          exact (congrArg BitVec.toNat (hv L hc (x 0))).trans_lt (hpre d _)
    rw [wp_assume_of _ _ _ _ hck]
    ihave Hp' := (Entails.of_eq (pts_pV_whole (F := F) d L f).symm) $$ Hp
    iapply (SparseCore.wp_vectorStoreIdx 𝒱₀ (V d (cV L) (jV L)) none Set.univ (base := (pV))) $$ Hp'
    iintro Hp
    ihave Hp' := (Entails.of_eq (pts_pV_whole (F := F) d L _)) $$ Hp
    sl_exec
    sl_step
    isplitl [Hs]; · iexact Hs
    iexists _; isplitr
    swap; · iexact Hp'
    ipureintro
    have hst := storeIdx_step m d hpre k f _ (hv L hc) (k1_idx1_inb L _ hck hc) hf
    refine cast (congrArg (PosUpTo m d (16 * (k.val + 1))) ?_) hst
    refine Eq.trans ?_ (Memref.write_access_whole_univ (Elt F) (cc1_scratch0 : Ref sig .scVector) f _).symm
    exact congrArg (fun g => storeIdx (F := F) (s := S100000) (e := .i32) g _ _ _ _ _)
      (Memref.read_access_whole (Elt F) (cc1_scratch0 : Ref sig .scVector) f).symm
  · unfold inv
    isplitl [Hs']
    · iapply (Entails.of_eq (congrArg (fun f => ((sV).view.loc (V d (cV L) (jV L)) ↦{fullShare} f : sProp 𝕄)) ?_)) $$ Hs'
      exact View.write_whole_univ _ _ _
    iexists fp; isplitr
    · ipureintro; exact fun i hi => absurd hi (by omega)
    · iexact Hp'
  iintro %_ HI
  unfold inv
  icases HI with ⟨Hs, %f, %hf, Hp⟩
  sl_exec
  sl_step
  isplitl [Hi' Ho']
  · isplitl [Hi']; · iexact Hi'
    iexists _; isplitr
    swap; · iexact Ho'
    ipureintro
    have hw : View.write (Elt F) (oV).view (m (b1Loc d)) (body_one.sl.dma0_1 f) Finset.univ = f := View.write_whole_univ _ _ _
    rw [hw]
    exact posOK_of m d f hf
  isplitl [Hs Hp Hbufs]
  · isplitl [Hp]; · iexists _; iexact Hp
    isplitl [Hs]; · iexists _; iexact Hs
    iexact Hbufs
  isplitl [HsemA HsemB Hsems]
  · isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

set_option maxHeartbeats 4000000 in
theorem body_other (hc : ¬ k1_cond1 L = 1#1) (w : Fin 32) (hw : w ≠ 0) (O : CellTallies nD τ sig (HIx 3)) (W : Waits sig (HIx 3)) :
    iprop(levAts (K (F := F)).L (K (F := F)).lev ∗ emp ∗ goP m 1 d w
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_arb L iV (Memref.isWhole_whole _) oV (Memref.isWhole_whole _)
            pV (Memref.isWhole_whole _) sV (Memref.isWhole_whole _) cc1_scoped0 cc1_scoped1)
          fun _ => iprop(tdP m 1 d w
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_arb_eq_skeleton]; unfold cc1__sc_arb_skel
  simp only [goP, tdP, hw, if_false]
  iintro ⟨-, -, He, Hb, Hs, HO⟩
  sl_exec
  sl_step
  isplitl [He]; · iexact He
  isplitl [Hb]; · iexact Hb
  isplitl [Hs]; · iexact Hs
  iexists W; isplitr
  · ipureintro; exact fun p hp => .inl hp
  · iexact HO

theorem tile_body (hF : (K (F := F)).Facts) (hpre : PreOK m) (O : CellTallies nD τ sig (HIx 3)) (W : Waits sig (HIx 3)) (hO : ∀ g, O g none = 0) :
    iprop(levAts (K (F := F)).L (K (F := F)).lev ∗ emp ∗ goP m 1 d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_arb L iV (Memref.isWhole_whole _) oV (Memref.isWhole_whole _)
            pV (Memref.isWhole_whole _) sV (Memref.isWhole_whole _) cc1_scoped0 cc1_scoped1)
          fun _ => iprop(tdP m 1 d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  have h := cond_eq (L 0) (L 1); rw [← coords_eta] at h
  by_cases hw : wL L = 0
  · rw [hw]; exact body_one m d L (h.mpr hw) hF hpre O W hO
  · exact body_other m d L (fun hc => hw (h.mp hc)) _ hw O W

theorem defs₀_vector (c : Fin τ.nSC) (s : Fin τ.nSub) :
    defs₀ (F := F) (.scVector c s) 1 ()
      = SparseCore.onTile hcore1 hsub1 (fun c s => cc1__sc_arb (coordsV c s)
          iV (Memref.isWhole_whole _) oV (Memref.isWhole_whole _)
          pV (Memref.isWhole_whole _) sV (Memref.isWhole_whole _) cc1_scoped0 cc1_scoped1) ⟨⟩ c s := rfl

set_option maxRecDepth 16384 in
theorem tileObl (hF : (K (F := F)).Facts) (hpre : PreOK m) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Arb

end Cert.Proof.Main

end
-- ==== Proof.ScatterVals.lean ====
/-
  The values and the geometry of the scatter call: which elements of a task's buffers each of its
  four streams of 128 reads or writes, and what they hold.
-/
module

public import proofs.«01_k».proof.Proof.Common

@[expose] public section

noncomputable section

namespace Cert.Proof.Main

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 3) (Elt F) ℕ (UU F) ℕ

variable (m : (ℓ : Loc nD τ sig) → Buf (Elt F) ℓ)

namespace Scatter

abbrev VMem (s : Shape) (e : EltTy) : Type := Memref Cert.KernelIdeal.sig Kind.scVector Space.vmem s e
abbrev HMem (s : Shape) (e : EltTy) : Type := Memref Cert.KernelIdeal.sig Kind.scVector Space.hbm s e

abbrev xV : VMem S4x128 .i32 := Memref.whole cc4_scratch0
abbrev wV : VMem S4x128 .i32 := Memref.whole cc4_scratch1
abbrev hV : VMem S512x128 .f32 := Memref.whole cc4_scratch2
abbrev tV : VMem S512 .f32 := Memref.whole cc4_scratch3
abbrev r0V : HMem S100000x128 .f32 := Memref.whole main_v7_0_scv
abbrev r1V : HMem S100000 .f32 := Memref.whole main_v7_1_scv
abbrev iV : HMem S32x4x128 .i32 := Memref.whole main_v6_scv
abbrev pV : HMem S100000 .i32 := Memref.whole main_v1_scv
abbrev nV : HMem S16384x128 .f32 := Memref.whole main_v5_scv
abbrev sV : HMem S16384 .f32 := Memref.whole main_arg4_scv

abbrev xRow (k : ℕ) (h : ∀ a, (![k, 0] : Fin 2 → ℕ) a + S1x128.size a ≤ S4x128.size a) : VMem S128 .i32 :=
  ((xV).slice (Rect.unit (s := S4x128) ![k, 0] S1x128.size h) (fun _ => rfl)).squeeze S128 squeezes_S1x128_S128
abbrev wRow (k : ℕ) (h : ∀ a, (![k, 0] : Fin 2 → ℕ) a + S1x128.size a ≤ S4x128.size a) : VMem S128 .i32 :=
  ((wV).slice (Rect.unit (s := S4x128) ![k, 0] S1x128.size h) (fun _ => rfl)).squeeze S128 squeezes_S1x128_S128
abbrev hBlk (o : ℕ) (h : ∀ a, (![o, 0] : Fin 2 → ℕ) a + S128x128.size a ≤ S512x128.size a) : VMem S128x128 .f32 :=
  (hV).slice (Rect.unit (s := S512x128) ![o, 0] S128x128.size h) (fun _ => rfl)
abbrev tBlk (o : ℕ) (h : ∀ a, (![o] : Fin 1 → ℕ) a + S128.size a ≤ S512.size a) : VMem S128 .f32 :=
  (tV).slice (Rect.unit (s := S512) ![o] S128.size h) (fun _ => rfl)
abbrev pAll : HMem S100000 .i32 := (pV).slice (Rect.unit (s := S100000) ![0] S100000.size inb_S100000_S100000_0) (fun _ => rfl)
abbrev nAll : HMem S16384x128 .f32 := (nV).slice (Rect.unit (s := S16384x128) ![0, 0] S16384x128.size inb_S16384x128_S16384x128_0_0) (fun _ => rfl)
abbrev sAll : HMem S16384 .f32 := (sV).slice (Rect.unit (s := S16384) ![0] S16384.size inb_S16384_S16384_0) (fun _ => rfl)
abbrev r0All : HMem S100000x128 .f32 := (r0V).slice (Rect.unit (s := S100000x128) ![0, 0] S100000x128.size inb_S100000x128_S100000x128_0_0) (fun _ => rfl)
abbrev r1All : HMem S100000 .f32 := (r1V).slice (Rect.unit (s := S100000) ![0] S100000.size inb_S100000_S100000_0) (fun _ => rfl)

/-! ## Element sets -/

def setX (k : ℕ) : Finset S4x128.Idx := Finset.univ.filter fun x => (x 0).val = k
def setH (k : ℕ) : Finset S512x128.Idx := Finset.univ.filter fun x => (x 0).val / 128 = k
def setT (k : ℕ) : Finset S512.Idx := Finset.univ.filter fun x => (x 0).val / 128 = k

theorem set_xRow (k : ℕ) (h) : (xRow k h).view.set = setX k := by
  refine (View.set_reshape _ _).trans ?_
  ext x
  show x ∈ ((View.whole (cc4_scratch0 : Ref sig .scVector)).slice _).set ↔ _
  rw [View.set_slice_whole, Rect.mem_set_unit, setX, Finset.mem_filter]
  have hx : (x 1).val < 128 := (x 1).isLt
  have e : S1x128.size 0 = 1 := rfl
  have e' : S1x128.size 1 = 128 := rfl
  constructor
  · intro hh; have := hh 0; rw [e] at this; refine ⟨Finset.mem_univ _, ?_⟩
    have h1 : (![k, 0] : Fin 2 → ℕ) 0 = k := rfl
    rw [h1] at this; omega
  · rintro ⟨-, hh⟩ a; match a with
    | 0 => rw [e]; show k ≤ _ ∧ _ < k + 1; omega
    | 1 => rw [e']; show 0 ≤ _ ∧ _ < 0 + 128; omega

theorem set_wRow (k : ℕ) (h) : (wRow k h).view.set = setX k := set_xRow k h

theorem set_hBlk (k o : ℕ) (ho : o = 128 * k) (h) : (hBlk o h).view.set = setH k := by
  subst ho
  ext x
  show x ∈ ((View.whole (cc4_scratch2 : Ref sig .scVector)).slice _).set ↔ _
  rw [View.set_slice_whole, Rect.mem_set_unit, setH, Finset.mem_filter]
  have hx : (x 1).val < 128 := (x 1).isLt
  have e : S128x128.size 0 = 128 := rfl
  have e' : S128x128.size 1 = 128 := rfl
  constructor
  · intro hh; have := hh 0; rw [e] at this; refine ⟨Finset.mem_univ _, ?_⟩
    have h1 : (![128 * k, 0] : Fin 2 → ℕ) 0 = 128 * k := rfl
    rw [h1] at this; omega
  · rintro ⟨-, hh⟩ a; match a with
    | 0 => rw [e]; show 128 * k ≤ _ ∧ _ < 128 * k + 128; omega
    | 1 => rw [e']; show 0 ≤ _ ∧ _ < 0 + 128; omega

theorem set_tBlk (k o : ℕ) (ho : o = 128 * k) (h) : (tBlk o h).view.set = setT k := by
  subst ho
  ext x
  show x ∈ ((View.whole (cc4_scratch3 : Ref sig .scVector)).slice _).set ↔ _
  rw [View.set_slice_whole, Rect.mem_set_unit, setT, Finset.mem_filter]
  have e : S128.size 0 = 128 := rfl
  constructor
  · intro hh; have := hh 0; rw [e] at this; refine ⟨Finset.mem_univ _, ?_⟩
    have h1 : (![128 * k] : Fin 1 → ℕ) 0 = 128 * k := rfl
    rw [h1] at this; omega
  · rintro ⟨-, hh⟩ a; match a with
    | 0 => rw [e]; show 128 * k ≤ _ ∧ _ < 128 * k + 128; omega

theorem set_pAll : (pAll).view.set = Finset.univ := by
  ext x
  show x ∈ ((View.whole (main_v1_scv : Ref sig .scVector)).slice _).set ↔ _
  rw [View.set_slice_whole, Rect.mem_set_unit]
  simp only [Finset.mem_univ, iff_true]
  intro a; match a with | 0 => exact ⟨Nat.zero_le _, lt_of_lt_of_eq (x 0).isLt (Nat.zero_add _).symm⟩
theorem set_nAll : (nAll).view.set = Finset.univ := by
  ext x
  show x ∈ ((View.whole (main_v5_scv : Ref sig .scVector)).slice _).set ↔ _
  rw [View.set_slice_whole, Rect.mem_set_unit]
  simp only [Finset.mem_univ, iff_true]
  intro a; match a with
  | 0 => exact ⟨Nat.zero_le _, lt_of_lt_of_eq (x 0).isLt (Nat.zero_add _).symm⟩
  | 1 => exact ⟨Nat.zero_le _, lt_of_lt_of_eq (x 1).isLt (Nat.zero_add _).symm⟩
theorem set_sAll : (sAll).view.set = Finset.univ := by
  ext x
  show x ∈ ((View.whole (main_arg4_scv : Ref sig .scVector)).slice _).set ↔ _
  rw [View.set_slice_whole, Rect.mem_set_unit]
  simp only [Finset.mem_univ, iff_true]
  intro a; match a with | 0 => exact ⟨Nat.zero_le _, lt_of_lt_of_eq (x 0).isLt (Nat.zero_add _).symm⟩

/-- A buffer held whole is its four parts. -/
theorem pts4 {ℓ : Loc nD τ sig} (cls : Idx ℓ → ℕ) (hc : ∀ x, cls x < 4) (q : PosShare TreeShare) (f : Buf (Elt F) ℓ) :
    (ℓ ↦[Finset.univ]{q} f : sProp 𝕄)
      = iprop((ℓ ↦[Finset.univ.filter fun x => cls x = 0]{q} f) ∗ (ℓ ↦[Finset.univ.filter fun x => cls x = 1]{q} f)
          ∗ (ℓ ↦[Finset.univ.filter fun x => cls x = 2]{q} f) ∗ (ℓ ↦[Finset.univ.filter fun x => cls x = 3]{q} f)) := by
  have hsplit : ∀ (I J : Finset (Idx ℓ)), Disjoint I J → (ℓ ↦[I ∪ J]{q} f : sProp 𝕄) = iprop((ℓ ↦[I]{q} f) ∗ ℓ ↦[J]{q} f) := fun I J h =>
    BI.Entails.antisymm (pointsTo_union h).1 (pointsTo_union h).2
  rw [← hsplit, ← hsplit, ← hsplit]
  · congr 1
    ext x
    have := hc x
    simp only [Finset.mem_univ, Finset.mem_union, Finset.mem_filter, true_and, true_iff]
    omega
  all_goals
    rw [Finset.disjoint_left]
    intro x hx hy
    simp only [Finset.mem_union, Finset.mem_filter, Finset.mem_univ, true_and] at hx hy
    omega

/-! ## Values -/

/-- Position `l` of part `k` of task `w`. -/
def pos4 (w : Fin 32) (k : Fin 4) (l : Fin 128) : Fin 16384 := ⟨512 * w.val + 128 * k.val + l.val, by omega⟩

/-- The task's node numbers. -/
def idsW (d : Dev nD) (w : Fin 32) : S4x128.Idx → Elt F .i32 := fun x => m (a2Loc d) (ix1 (pos4 w (x 0) (x 1)))
/-- The winners at the task's positions. -/
def winW (d : Dev nD) (w : Fin 32) : S4x128.Idx → Elt F .i32 := fun x => BitVec.ofNat 32 (lastPos m d (pos4 w (x 0) (x 1))).val
/-- The winners' new rows. -/
def rowW (d : Dev nD) (w : Fin 32) : S512x128.Idx → Elt F .f32 := fun x =>
  hNew m d (ix2 (lastPos m d (pos4 w ⟨(x 0).val / 128, Nat.div_lt_of_lt_mul (show (x 0).val < 128 * 4 from (x 0).isLt)⟩ ⟨(x 0).val % 128, Nat.mod_lt _ (by decide)⟩)) (x 1))
/-- The winners' time stamps. -/
def tsW (d : Dev nD) (w : Fin 32) : S512.Idx → Elt F .f32 := fun x =>
  m (a4Loc d) (ix1 (lastPos m d (pos4 w ⟨(x 0).val / 128, Nat.div_lt_of_lt_mul (show (x 0).val < 128 * 4 from (x 0).isLt)⟩ ⟨(x 0).val % 128, Nat.mod_lt _ (by decide)⟩)))

theorem emb_xRow (k : ℕ) (hk : k < 4) (h) (l : Fin 128) : (xRow k h).view.emb (ix1 l) = (ix2 ⟨k, hk⟩ l : S4x128.Idx) := by
  have e : Shape.reshapeEquiv squeezes_S1x128_S128.numel_eq (ix1 l : S128.Idx) = (ix2 0 l : S1x128.Idx) :=
    Shape.reshapeEquiv_eq_of_rowMajor _ (by
      have e1 : ((S128.rowMajor (ix1 l : S128.Idx)) : ℕ) = l.val := rowMajor_val1 _
      have e2 : ((S1x128.rowMajor (ix2 0 l : S1x128.Idx)) : ℕ) = 0 * 128 + l.val := rowMajor_val2 _ 128 rfl
      rw [e1, e2]; omega)
  refine (congrArg (fun y => ((View.whole (cc4_scratch0 : Ref sig .scVector)).slice (Rect.unit (s := S4x128) ![k, 0] S1x128.size h)).emb y) e).trans ?_
  funext a; match a with
  | 0 => exact Fin.ext (show k + 1 * 0 = k by omega)
  | 1 => exact Fin.ext (show 0 + 1 * l.val = l.val by omega)

theorem emb_wRow (k : ℕ) (hk : k < 4) (h) (l : Fin 128) : (wRow k h).view.emb (ix1 l) = (ix2 ⟨k, hk⟩ l : S4x128.Idx) := emb_xRow k hk h l

theorem read_xRow (k : ℕ) (hk : k < 4) (h) (f : S4x128.Idx → Elt F .i32) (l : Fin 128) :
    (xRow k h).view.read (Elt F) f (ix1 l) = f (ix2 ⟨k, hk⟩ l) :=
  ((View.read_apply _ _).trans (cast_eq _ _)).trans (congrArg f (emb_xRow k hk h l))
theorem read_wRow (k : ℕ) (hk : k < 4) (h) (f : S4x128.Idx → Elt F .i32) (l : Fin 128) :
    (wRow k h).view.read (Elt F) f (ix1 l) = f (ix2 ⟨k, hk⟩ l) := read_xRow k hk h f l

theorem emb_hBlk (k o : ℕ) (ho : o = 128 * k) (hk : k < 4) (h) (l y : Fin 128) :
    (hBlk o h).view.emb (ix2 l y) = (ix2 ⟨128 * k + l.val, by omega⟩ y : S512x128.Idx) := by
  subst ho
  funext a; match a with
  | 0 => exact Fin.ext (show 128 * k + 1 * l.val = 128 * k + l.val by omega)
  | 1 => exact Fin.ext (show 0 + 1 * y.val = y.val by omega)
theorem emb_tBlk (k o : ℕ) (ho : o = 128 * k) (hk : k < 4) (h) (l : Fin 128) :
    (tBlk o h).view.emb (ix1 l) = (ix1 ⟨128 * k + l.val, by omega⟩ : S512.Idx) := by
  subst ho
  funext a; match a with
  | 0 => exact Fin.ext (show 128 * k + 1 * l.val = 128 * k + l.val by omega)

theorem pos4_eq (w : Fin 32) (k : ℕ) (hk : k < 4) (l : Fin 128) (h1) (h2) :
    pos4 w ⟨(128 * k + l.val) / 128, h1⟩ ⟨(128 * k + l.val) % 128, h2⟩ = pos4 w ⟨k, hk⟩ l := by
  apply Fin.ext
  show 512 * w.val + 128 * ((128 * k + l.val) / 128) + (128 * k + l.val) % 128 = 512 * w.val + 128 * k + l.val
  omega

theorem rowW_apply (d : Dev nD) (w : Fin 32) (k : ℕ) (hk : k < 4) (l y : Fin 128) :
    rowW m d w (ix2 ⟨128 * k + l.val, by omega⟩ y) = hNew m d (ix2 (lastPos m d (pos4 w ⟨k, hk⟩ l)) y) :=
  congrArg (fun p => hNew m d (ix2 (lastPos m d p) y)) (pos4_eq w k hk l _ _)
theorem tsW_apply (d : Dev nD) (w : Fin 32) (k : ℕ) (hk : k < 4) (l : Fin 128) :
    tsW m d w (ix1 ⟨128 * k + l.val, by omega⟩) = m (a4Loc d) (ix1 (lastPos m d (pos4 w ⟨k, hk⟩ l))) :=
  congrArg (fun p => m (a4Loc d) (ix1 (lastPos m d p))) (pos4_eq w k hk l _ _)

/-! ## The index lists are in range -/

theorem ids_inb (hpre : PreOK m) (d : Dev nD) (w : Fin 32) (k : ℕ) (hk : k < 4) (h) :
    ∀ x, ((xRow k h).view.read (Elt F) (idsW m d w) x).toNat < 100000 := fun x => by
  obtain ⟨l, rfl⟩ : ∃ l : Fin 128, x = (ix1 l : S128.Idx) := ⟨x 0, (ix1_eta x).symm⟩
  exact (congrArg BitVec.toNat (read_xRow k hk h (idsW m d w) l)).trans_lt (hpre d _)

theorem ids_val (hpre : PreOK m) (d : Dev nD) (w : Fin 32) (k : ℕ) (hk : k < 4) (h) (l : Fin 128) :
    ((xRow k h).view.read (Elt F) (idsW m d w) (ix1 l)).toNat = (node m d (pos4 w ⟨k, hk⟩ l)).val :=
  (congrArg BitVec.toNat (read_xRow k hk h (idsW m d w) l)).trans (node_val m hpre d _)

theorem win_val (d : Dev nD) (w : Fin 32) (k : ℕ) (hk : k < 4) (h) (l : Fin 128) :
    ((wRow k h).view.read (Elt F) (winW m d w) (ix1 l)).toNat = (lastPos m d (pos4 w ⟨k, hk⟩ l)).val := by
  refine (congrArg BitVec.toNat (read_wRow k hk h (winW m d w) l)).trans ?_
  show (BitVec.ofNat 32 (lastPos m d (pos4 w ⟨k, hk⟩ l)).val).toNat = _
  have := (lastPos m d (pos4 w ⟨k, hk⟩ l)).isLt
  rw [BitVec.toNat_ofNat]; omega

theorem win_inb (d : Dev nD) (w : Fin 32) (k : ℕ) (hk : k < 4) (h) :
    ∀ x, ((wRow k h).view.read (Elt F) (winW m d w) x).toNat < 16384 := fun x => by
  obtain ⟨l, rfl⟩ : ∃ l : Fin 128, x = (ix1 l : S128.Idx) := ⟨x 0, (ix1_eta x).symm⟩
  rw [win_val m d w k hk h l]; exact (lastPos m d _).isLt

/-! ## What the gathers leave -/

theorem win_value (hpre : PreOK m) (d : Dev nD) (w : Fin 32) (k : ℕ) (hk : k < 4) (h h') (f : S100000.Idx → Elt F .i32) (hf : PosOK m d f)
    (fw : S4x128.Idx → Elt F .i32) (hin) :
    ∀ x ∈ setX k, (wRow k h).view.write (Elt F) fw (SparseCore.gatherPayload gathers_S100000_S128 ((pAll).view.read (Elt F) f)
      (SparseCore.rows ((xRow k h').view.read (Elt F) (idsW m d w)) rfl hin)) Finset.univ x = winW m d w x := by
  intro x hx
  have hx0 := (Finset.mem_filter.mp hx).2
  obtain ⟨l, rfl⟩ : ∃ l : Fin 128, x = (ix2 ⟨k, hk⟩ l : S4x128.Idx) := ⟨x 1, by
    rw [show (⟨k, hk⟩ : Fin 4) = x 0 from Fin.ext hx0.symm]; exact (ix2_eta x).symm⟩
  rw [← emb_wRow k hk h l, View.write_emb_of_mem _ _ (Finset.mem_univ _), emb_wRow k hk h l]
  refine (cast_eq _ _).trans ?_
  refine (congrArg ((pAll).view.read (Elt F) f) (gathers1_idx gathers_S100000_S128 _ (ix1 l))).trans ?_
  refine ((View.read_apply _ _).trans (cast_eq _ _)).trans ?_
  refine Eq.trans (congrArg f ?_) (hf (pos4 w ⟨k, hk⟩ l))
  funext a; match a with
  | 0 =>
    apply Fin.ext
    exact (Nat.zero_add _).trans ((Nat.one_mul _).trans ((rows_ix1 (F := F) _ rfl hin l).trans (ids_val m hpre d w k hk h' l)))

theorem row_value (d : Dev nD) (w : Fin 32) (k o : ℕ) (ho : o = 128 * k) (hk : k < 4) (h h') (fw : S512x128.Idx → Elt F .f32) (hin) :
    ∀ x ∈ setH k, (hBlk o h).view.write (Elt F) fw (SparseCore.gatherPayload gathers_S16384x128_S128x128 ((nAll).view.read (Elt F) (hNew m d))
      (SparseCore.rows ((wRow k h').view.read (Elt F) (winW m d w)) rfl hin)) Finset.univ x = rowW m d w x := by
  intro x hx
  have hx0 := (Finset.mem_filter.mp hx).2
  obtain ⟨l, y, hxe⟩ : ∃ l y : Fin 128, x = (ix2 ⟨128 * k + l.val, by omega⟩ y : S512x128.Idx) :=
    ⟨⟨(x 0).val % 128, Nat.mod_lt _ (by decide)⟩, x 1, by
      refine (ix2_eta x).symm.trans (congrArg (fun a => ix2 a (x 1)) (Fin.ext ?_))
      show (x 0).val = 128 * k + (x 0).val % 128
      omega⟩
  rw [hxe, ← emb_hBlk k o ho hk h l y, View.write_emb_of_mem _ _ (Finset.mem_univ _), emb_hBlk k o ho hk h l y, rowW_apply m d w k hk l y]
  refine (cast_eq _ _).trans ?_
  refine (congrArg ((nAll).view.read (Elt F) (hNew m d)) (gathers2_idx gathers_S16384x128_S128x128 _ (ix2 l y))).trans ?_
  refine ((View.read_apply _ _).trans (cast_eq _ _)).trans ?_
  refine congrArg (hNew m d) ?_
  funext a; match a with
  | 0 =>
    apply Fin.ext
    exact (Nat.zero_add _).trans ((Nat.one_mul _).trans ((rows_ix1 (F := F) _ rfl hin l).trans (win_val m d w k hk h' l)))
  | 1 =>
    apply Fin.ext
    show 0 + 1 * y.val = y.val
    omega

theorem ts_value (d : Dev nD) (w : Fin 32) (k o : ℕ) (ho : o = 128 * k) (hk : k < 4) (h h') (fw : S512.Idx → Elt F .f32) (hin) :
    ∀ x ∈ setT k, (tBlk o h).view.write (Elt F) fw (SparseCore.gatherPayload gathers_S16384_S128 ((sAll).view.read (Elt F) (m (a4Loc d)))
      (SparseCore.rows ((wRow k h').view.read (Elt F) (winW m d w)) rfl hin)) Finset.univ x = tsW m d w x := by
  intro x hx
  have hx0 := (Finset.mem_filter.mp hx).2
  obtain ⟨l, hxe⟩ : ∃ l : Fin 128, x = (ix1 ⟨128 * k + l.val, by omega⟩ : S512.Idx) :=
    ⟨⟨(x 0).val % 128, Nat.mod_lt _ (by decide)⟩, by
      refine (ix1_eta x).symm.trans (congrArg ix1 (Fin.ext ?_))
      show (x 0).val = 128 * k + (x 0).val % 128
      omega⟩
  rw [hxe, ← emb_tBlk k o ho hk h l, View.write_emb_of_mem _ _ (Finset.mem_univ _), emb_tBlk k o ho hk h l, tsW_apply m d w k hk l]
  refine (cast_eq _ _).trans ?_
  refine (congrArg ((sAll).view.read (Elt F) (m (a4Loc d))) (gathers1_idx gathers_S16384_S128 _ (ix1 l))).trans ?_
  refine ((View.read_apply _ _).trans (cast_eq _ _)).trans ?_
  refine congrArg (m (a4Loc d)) ?_
  funext a; match a with
  | 0 =>
    apply Fin.ext
    exact (Nat.zero_add _).trans ((Nat.one_mul _).trans ((rows_ix1 (F := F) _ rfl hin l).trans (win_val m d w k hk h' l)))

/-! ## What the scatters write is the result -/

/-- The rows part `k` of task `w` names. -/
def nodes (d : Dev nD) (w : Fin 32) (k : Fin 4) : Fin 128 → Fin 100000 := fun l => node m d (pos4 w k l)

theorem nodes_rows (hpre : PreOK m) (d : Dev nD) (w : Fin 32) (k : ℕ) (hk : k < 4) (h)
    (hin : ∀ x, ((xRow k h).view.read (Elt F) (idsW m d w) x).toNat < 100000) :
    nodes m d w ⟨k, hk⟩ = SparseCore.rows (F := F) (si := S128) (o := 128) ((xRow k h).view.read (Elt F) (idsW m d w)) rfl hin := by
  funext l
  exact Fin.ext ((ids_val m hpre d w k hk h l).symm.trans (rows_ix1 (F := F) _ rfl hin l).symm)

variable (c : Thread nD τ)

theorem adm0 (d : Dev nD) (w : Fin 32) (c : Fin τ.nSC) (i : Fin τ.nSub) (k o : ℕ) (ho : o = 128 * k) (hk : k < 4) (h) (j : Fin 128) :
    ((r0All).view.slice (S100000x128.rowRect (gathers_S100000x128_S128x128).axis (nodes m d w ⟨k, hk⟩ j))).Admitted (Elt F) (fun x => some (res0 m d x))
      (SparseCore.scatterRowPayload (V d c i) (hBlk o h) gathers_S100000x128_S128x128 (rowW m d w) j) Finset.univ := by
  refine View.admitted_some_iff.mpr fun x _ => ?_
  refine ((View.read_apply _ _).trans (cast_eq _ _)).trans (Eq.trans ?_ ((View.read_apply _ _).trans (cast_eq _ _)).symm)
  have hy : (x 1).val < 128 := (x 1).isLt
  refine (congrArg (rowW m d w) (show _ = (ix2 ⟨128 * k + j.val, by omega⟩ ⟨(x 1).val, hy⟩ : S512x128.Idx) from ?_)).trans ?_
  · subst ho
    funext a; match a with
    | 0 =>
      apply Fin.ext
      have h0 : (x 0).val < 1 := (x 0).isLt
      have e : (((Shape.idxEquiv (gathers_S100000x128_S128x128).rowShape_eq).symm x) ⟨0, Nat.two_pos⟩).val = (x 0).val := Shape.idxEquiv_symm_apply_val _ _ _
      show 128 * k + 1 * (j.val + 1 * (((Shape.idxEquiv (gathers_S100000x128_S128x128).rowShape_eq).symm x) ⟨0, Nat.two_pos⟩).val) = 128 * k + j.val
      omega
    | 1 =>
      apply Fin.ext
      have e : (((Shape.idxEquiv (gathers_S100000x128_S128x128).rowShape_eq).symm x) ⟨1, Nat.one_lt_two⟩).val = (x 1).val := Shape.idxEquiv_symm_apply_val _ _ _
      show 0 + 1 * (0 + 1 * (((Shape.idxEquiv (gathers_S100000x128_S128x128).rowShape_eq).symm x) ⟨1, Nat.one_lt_two⟩).val) = (x 1).val
      omega
  rw [rowW_apply m d w k hk j]
  refine (res0_named m d (pos4 w ⟨k, hk⟩ j) ⟨(x 1).val, hy⟩).symm.trans (congrArg (res0 m d) ?_)
  funext a; match a with
  | 0 =>
    apply Fin.ext
    have h0 : (x 0).val < 1 := (x 0).isLt
    show (node m d (pos4 w ⟨k, hk⟩ j)).val = 0 + 1 * ((node m d (pos4 w ⟨k, hk⟩ j)).val + 1 * (x 0).val)
    omega
  | 1 =>
    apply Fin.ext
    show (x 1).val = 0 + 1 * (0 + 1 * (x 1).val)
    omega

theorem adm1 (d : Dev nD) (w : Fin 32) (c : Fin τ.nSC) (i : Fin τ.nSub) (k o : ℕ) (ho : o = 128 * k) (hk : k < 4) (h) (j : Fin 128) :
    ((r1All).view.slice (S100000.rowRect (gathers_S100000_S128).axis (nodes m d w ⟨k, hk⟩ j))).Admitted (Elt F) (fun x => some (res1 m d x))
      (SparseCore.scatterRowPayload (V d c i) (tBlk o h) gathers_S100000_S128 (tsW m d w) j) Finset.univ := by
  refine View.admitted_some_iff.mpr fun x _ => ?_
  refine ((View.read_apply _ _).trans (cast_eq _ _)).trans (Eq.trans ?_ ((View.read_apply _ _).trans (cast_eq _ _)).symm)
  have h0 : (x 0).val < 1 := (x 0).isLt
  refine (congrArg (tsW m d w) (show _ = (ix1 ⟨128 * k + j.val, by omega⟩ : S512.Idx) from ?_)).trans ?_
  · subst ho
    funext a; match a with
    | 0 =>
      apply Fin.ext
      have e : (((Shape.idxEquiv (gathers_S100000_S128).rowShape_eq).symm x) ⟨0, Nat.one_pos⟩).val = (x 0).val := Shape.idxEquiv_symm_apply_val _ _ _
      show 128 * k + 1 * (j.val + 1 * (((Shape.idxEquiv (gathers_S100000_S128).rowShape_eq).symm x) ⟨0, Nat.one_pos⟩).val) = 128 * k + j.val
      omega
  rw [tsW_apply m d w k hk j]
  refine (res1_named m d (pos4 w ⟨k, hk⟩ j)).symm.trans (congrArg (res1 m d) ?_)
  funext a; match a with
  | 0 =>
    apply Fin.ext
    show (node m d (pos4 w ⟨k, hk⟩ j)).val = 0 + 1 * ((node m d (pos4 w ⟨k, hk⟩ j)).val + 1 * (x 0).val)
    omega

/-! ## The marks cover the named rows -/

abbrev marks0 (d : Dev nD) (w : Fin 32) (c : Fin τ.nSC) (i : Fin τ.nSub) (k : Fin 4) : Finset S100000x128.Idx :=
  SparseCore.namedRows (V d c i) (r0All).view (gathers_S100000x128_S128x128).axis (nodes m d w k)
abbrev marks1 (d : Dev nD) (w : Fin 32) (c : Fin τ.nSC) (i : Fin τ.nSub) (k : Fin 4) : Finset S100000.Idx :=
  SparseCore.namedRows (V d c i) (r1All).view (gathers_S100000_S128).axis (nodes m d w k)

theorem pos4_of (w : Fin 32) (j : Fin 16384) (hj : j.val / 512 = w.val) :
    j = pos4 w ⟨j.val % 512 / 128, by omega⟩ ⟨j.val % 128, by omega⟩ := by
  apply Fin.ext
  show j.val = 512 * w.val + 128 * (j.val % 512 / 128) + j.val % 128
  omega

theorem named0 (d : Dev nD) (w : Fin 32) (c : Fin τ.nSC) (i : Fin τ.nSub) : Named0 m d w (Finset.univ.biUnion (marks0 m d w c i)) := by
  intro j hj y
  rw [pos4_of w j hj]
  generalize (⟨j.val % 512 / 128, _⟩ : Fin 4) = k
  generalize (⟨j.val % 128, _⟩ : Fin 128) = l
  refine Finset.mem_biUnion.mpr ⟨k, Finset.mem_univ _, Finset.mem_biUnion.mpr ⟨l, Finset.mem_univ _, ?_⟩⟩
  have he : ((r0All).view.slice (S100000x128.rowRect (gathers_S100000x128_S128x128).axis (nodes m d w k l))).emb
      (fun a => match a with | 0 => (⟨0, Nat.one_pos⟩ : Fin 1) | 1 => (y : Fin 128)) = (ix2 (node m d (pos4 w k l)) y : S100000x128.Idx) := by
    funext a; match a with
    | 0 =>
      apply Fin.ext
      show 0 + 1 * ((node m d (pos4 w k l)).val + 1 * 0) = (node m d (pos4 w k l)).val
      omega
    | 1 =>
      apply Fin.ext
      show 0 + 1 * (0 + 1 * y.val) = y.val
      omega
  rw [← he]; exact View.emb_mem_set _ _

theorem named1 (d : Dev nD) (w : Fin 32) (c : Fin τ.nSC) (i : Fin τ.nSub) : Named1 m d w (Finset.univ.biUnion (marks1 m d w c i)) := by
  intro j hj
  rw [pos4_of w j hj]
  generalize (⟨j.val % 512 / 128, _⟩ : Fin 4) = k
  generalize (⟨j.val % 128, _⟩ : Fin 128) = l
  refine Finset.mem_biUnion.mpr ⟨k, Finset.mem_univ _, Finset.mem_biUnion.mpr ⟨l, Finset.mem_univ _, ?_⟩⟩
  have he : ((r1All).view.slice (S100000.rowRect (gathers_S100000_S128).axis (nodes m d w k l))).emb
      (fun a => match a with | 0 => (⟨0, Nat.one_pos⟩ : Fin 1)) = (ix1 (node m d (pos4 w k l)) : S100000.Idx) := by
    funext a; match a with
    | 0 =>
      apply Fin.ext
      show 0 + 1 * ((node m d (pos4 w k l)).val + 1 * 0) = (node m d (pos4 w k l)).val
      omega
  rw [← he]; exact View.emb_mem_set _ _

end Scatter

end Cert.Proof.Main

end
-- ==== Proof.ScatterSteps.lean ====
/-
  The steps of the scatter call's task: each of its indirect streams, with the values it leaves.
-/
module

public import proofs.«01_k».proof.Proof.ScatterVals

@[expose] public section

noncomputable section

namespace Cert.Proof.Main

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 3) (Elt F) ℕ (UU F) ℕ
local notation:60 ℓ " ⇝{" q "} " f:max " ⇒ " g:max " @ " W:max => willBeTo wE ℓ Finset.univ q f g W

variable (m : (ℓ : Loc nD τ sig) → Buf (Elt F) ℓ)

namespace Scatter

variable (d : Dev nD) (w : Fin 32) (c : Fin τ.nSC) (i : Fin τ.nSub)

abbrev xLoc : Loc nD τ sig := (V d c i).loc cc4_scratch0
abbrev wLoc : Loc nD τ sig := (V d c i).loc cc4_scratch1
abbrev hLoc : Loc nD τ sig := (V d c i).loc cc4_scratch2
abbrev tLoc : Loc nD τ sig := (V d c i).loc cc4_scratch3

/-- A gather of winners. -/
theorem step_win (hpre : PreOK m) (f : S100000.Idx → Elt F .i32) (hf : PosOK m d f) (k : ℕ) (hk : k < 4) (h h') (sem : DmaSem sig)
    (q qo : PosShare TreeShare) (fw : S4x128.Idx → Elt F .i32) {α : Type} {kk : PUnit → Prog (TpuEff nD τ sig (Elt F) Λ₀ (.scVector c i)) α}
    {Q : α → sProp 𝕄} {hsrc : (pAll).view.WordExact} :
    iprop((b1Loc d ↦[Finset.univ]{q} f) ∗ (wLoc d c i ↦[setX k]{fullShare} fw) ∗ (xLoc d c i ↦[setX k]{qo} idsW m d w) ∗ semVal (V d c i, SemLoc.dma sem) 0)
      ⊢ iprop((Transfers.Flight countersEmb (V d c i) (.dma sem) (default : HIx 3) 4096
            iprop((wLoc d c i ↦[setX k]{fullShare} winW m d w) ∗ (b1Loc d ↦[Finset.univ]{q} f) ∗ (xLoc d c i ↦[setX k]{qo} idsW m d w))
          -∗ wp frame (wpE (defs₀ (F := F)) 𝒱₀ (V d c i) none) Set.univ (kk ⟨⟩) Q)
        -∗ wp frame (wpE (defs₀ (F := F)) 𝒱₀ (V d c i) none) Set.univ
          (SparseCore.enqueueIndirectGather rfl pAll (wRow k h) gathers_S100000_S128 (xRow k h') rfl sem hsrc rfl (Or.inl rfl) >>= kk) Q) := by
  have hX := set_xRow k h'
  have hW := set_wRow k h
  iintro ⟨Hp, Hw, Hx, Hsem⟩ Hk
  iapply (SparseCore.wp_indirectGatherLocal countersEmb 𝒱₀ (V d c i) none (src := pAll) (dst := wRow k h) (offs := xRow k h') (hg := gathers_S100000_S128) (default : HIx 3)
      4096 ((Finset.sum_congr rfl fun j _ => (rfl : _ = 32)).trans (by rw [Finset.sum_const, Finset.card_univ, Fintype.card_fin]; rfl)) (by decide) (ids_inb m hpre d w k hk h') (q := q) (qo := qo) (fs := f) (fd := fw)) $$ [Hp Hw Hx Hsem]
  · isplitl [Hp]; · rw [set_pAll]; iexact Hp
    isplitl [Hw]; · rw [hW]; iexact Hw
    isplitl [Hx]; · rw [hX]; iexact Hx
    iexact Hsem
  iintro Hf
  iapply Hk
  iapply (Transfers.Flight_mono countersEmb (V d c i) ?_) $$ Hf
  rw [hX, hW, set_pAll]
  iintro ⟨Hw, Hp, Hx⟩
  isplitl [Hw]
  · iapply (Entails.of_eq (pointsTo_congr (win_value m hpre d w k hk h h' f hf fw (ids_inb m hpre d w k hk h')))) $$ Hw
  isplitl [Hp] <;> iassumption

set_option maxRecDepth 16384 in
/-- A gather of the winners' new rows. -/
theorem step_row (k o : ℕ) (ho : o = 128 * k) (hk : k < 4) (h h') (sem : DmaSem sig)
    (q qo : PosShare TreeShare) (fw : S512x128.Idx → Elt F .f32) {α : Type} {kk : PUnit → Prog (TpuEff nD τ sig (Elt F) Λ₀ (.scVector c i)) α}
    {Q : α → sProp 𝕄} {hsrc : (nAll).view.WordExact} :
    iprop((b5Loc d ↦[Finset.univ]{q} (hNew m d)) ∗ (hLoc d c i ↦[setH k]{fullShare} fw) ∗ (wLoc d c i ↦[setX k]{qo} winW m d w) ∗ semVal (V d c i, SemLoc.dma sem) 0)
      ⊢ iprop((Transfers.Flight countersEmb (V d c i) (.dma sem) (default : HIx 3) 524288
            iprop((hLoc d c i ↦[setH k]{fullShare} (rowW m d w)) ∗ (b5Loc d ↦[Finset.univ]{q} (hNew m d)) ∗ (wLoc d c i ↦[setX k]{qo} winW m d w))
          -∗ wp frame (wpE (defs₀ (F := F)) 𝒱₀ (V d c i) none) Set.univ (kk ⟨⟩) Q)
        -∗ wp frame (wpE (defs₀ (F := F)) 𝒱₀ (V d c i) none) Set.univ
          (SparseCore.enqueueIndirectGather rfl nAll (hBlk o h) gathers_S16384x128_S128x128 (wRow k h') rfl sem hsrc rfl (Or.inl rfl) >>= kk) Q) := by
  have hX := set_wRow k h'
  have hW := set_hBlk k o ho h
  iintro ⟨Hp, Hw, Hx, Hsem⟩ Hk
  iapply (SparseCore.wp_indirectGatherLocal countersEmb 𝒱₀ (V d c i) none (src := nAll) (dst := hBlk o h) (offs := wRow k h') (hg := gathers_S16384x128_S128x128) (default : HIx 3)
      524288 ((Finset.sum_congr rfl fun j _ => (rfl : _ = 4096)).trans (by rw [Finset.sum_const, Finset.card_univ, Fintype.card_fin]; exact (show 128 * 4096 = 524288 by norm_num))) (by decide) (win_inb m d w k hk h')
      (q := q) (qo := qo) (fs := (hNew m d)) (fd := fw)) $$ [Hp Hw Hx Hsem]
  · isplitl [Hp]; · rw [set_nAll]; iexact Hp
    isplitl [Hw]; · rw [hW]; iexact Hw
    isplitl [Hx]; · rw [hX]; iexact Hx
    iexact Hsem
  iintro Hf
  iapply Hk
  iapply (Transfers.Flight_mono countersEmb (V d c i) ?_) $$ Hf
  rw [hX, hW, set_nAll]
  iintro ⟨Hw, Hp, Hx⟩
  isplitl [Hw]
  · iapply (Entails.of_eq (pointsTo_congr (row_value m d w k o ho hk h h' fw (win_inb m d w k hk h')))) $$ Hw
  isplitl [Hp] <;> iassumption

/-- A gather of the winners' time stamps. -/
theorem step_ts (k o : ℕ) (ho : o = 128 * k) (hk : k < 4) (h h') (sem : DmaSem sig)
    (q qo : PosShare TreeShare) (fw : S512.Idx → Elt F .f32) {α : Type} {kk : PUnit → Prog (TpuEff nD τ sig (Elt F) Λ₀ (.scVector c i)) α}
    {Q : α → sProp 𝕄} {hsrc : (sAll).view.WordExact} :
    iprop((a4Loc d ↦[Finset.univ]{q} (m (a4Loc d))) ∗ (tLoc d c i ↦[setT k]{fullShare} fw) ∗ (wLoc d c i ↦[setX k]{qo} winW m d w) ∗ semVal (V d c i, SemLoc.dma sem) 0)
      ⊢ iprop((Transfers.Flight countersEmb (V d c i) (.dma sem) (default : HIx 3) 4096
            iprop((tLoc d c i ↦[setT k]{fullShare} (tsW m d w)) ∗ (a4Loc d ↦[Finset.univ]{q} (m (a4Loc d))) ∗ (wLoc d c i ↦[setX k]{qo} winW m d w))
          -∗ wp frame (wpE (defs₀ (F := F)) 𝒱₀ (V d c i) none) Set.univ (kk ⟨⟩) Q)
        -∗ wp frame (wpE (defs₀ (F := F)) 𝒱₀ (V d c i) none) Set.univ
          (SparseCore.enqueueIndirectGather rfl sAll (tBlk o h) gathers_S16384_S128 (wRow k h') rfl sem hsrc rfl (Or.inl rfl) >>= kk) Q) := by
  have hX := set_wRow k h'
  have hW := set_tBlk k o ho h
  iintro ⟨Hp, Hw, Hx, Hsem⟩ Hk
  iapply (SparseCore.wp_indirectGatherLocal countersEmb 𝒱₀ (V d c i) none (src := sAll) (dst := tBlk o h) (offs := wRow k h') (hg := gathers_S16384_S128) (default : HIx 3)
      4096 ((Finset.sum_congr rfl fun j _ => (rfl : _ = 32)).trans (by rw [Finset.sum_const, Finset.card_univ, Fintype.card_fin]; rfl)) (by decide) (win_inb m d w k hk h')
      (q := q) (qo := qo) (fs := (m (a4Loc d))) (fd := fw)) $$ [Hp Hw Hx Hsem]
  · isplitl [Hp]; · rw [set_sAll]; iexact Hp
    isplitl [Hw]; · rw [hW]; iexact Hw
    isplitl [Hx]; · rw [hX]; iexact Hx
    iexact Hsem
  iintro Hf
  iapply Hk
  iapply (Transfers.Flight_mono countersEmb (V d c i) ?_) $$ Hf
  rw [hX, hW, set_sAll]
  iintro ⟨Hw, Hp, Hx⟩
  isplitl [Hw]
  · iapply (Entails.of_eq (pointsTo_congr (ts_value m d w k o ho hk h h' fw (win_inb m d w k hk h')))) $$ Hw
  isplitl [Hp] <;> iassumption

set_option maxRecDepth 16384 in
theorem credit0 (r : Fin 100000) : ((r0All).slice (S100000x128.rowRect (gathers_S100000x128_S128x128).axis r)
    (S100000x128.stride_rowRect (gathers_S100000x128_S128x128).axis _)).view.dmaCredit = 4096 := by
  have h : S100000x128.rowShape (gathers_S100000x128_S128x128).axis = S1x128 := by decide
  have h2 : ∀ s : Shape, s = S1x128 → (main_v7_0_scv : Ref sig .scVector).dmaCredit s .f32 = 4096 := by
    rintro s rfl; decide
  exact h2 _ h

theorem shift0 (Φ : Fin 128 → sProp 𝕄) (j : Fin 128) (h : 0 + j.val < 128) : Φ j = Φ ⟨0 + j.val, h⟩ :=
  congrArg Φ (Fin.ext (Nat.zero_add j.val).symm)

/-- What entry `j` of the scatter of rows delivers. -/
abbrev DR (k o : ℕ) (hk : k < 4) (h : ∀ a, (![o, 0] : Fin 2 → ℕ) a + S128x128.size a ≤ S512x128.size a)
    (h' : ∀ a, (![k, 0] : Fin 2 → ℕ) a + S1x128.size a ≤ S4x128.size a) (qo qd : PosShare TreeShare) : Fin 128 → sProp 𝕄 :=
  WmScatter.entryD wE (V d c i) (hBlk o h) r0All gathers_S100000x128_S128x128 (xRow k h') rfl (by decide) fullShare qo qd (rowW m d w) (m (a0Loc d))
    (fun x => some (res0 m d x)) (idsW m d w) (nodes m d w ⟨k, hk⟩)
/-- What entry `j` of the scatter of time stamps delivers. -/
abbrev DT (k o : ℕ) (hk : k < 4) (h : ∀ a, (![o] : Fin 1 → ℕ) a + S128.size a ≤ S512.size a)
    (h' : ∀ a, (![k, 0] : Fin 2 → ℕ) a + S1x128.size a ≤ S4x128.size a) (qo qd : PosShare TreeShare) : Fin 128 → sProp 𝕄 :=
  WmScatter.entryD wE (V d c i) (tBlk o h) r1All gathers_S100000_S128 (xRow k h') rfl (by decide) fullShare qo qd (tsW m d w) (m (a1Loc d))
    (fun x => some (res1 m d x)) (idsW m d w) (nodes m d w ⟨k, hk⟩)

instance DR_storable (k o hk h h' qo qd) (j : Fin 128) : BI.Storable (upEmb : UEmb _ 𝕄) (DR m d w c i k o hk h h' qo qd j) :=
  WmScatter.entryD_storable wE (V d c i) (hBlk o h) r0All gathers_S100000x128_S128x128 (xRow k h') rfl (by decide) fullShare qo qd (rowW m d w) (m (a0Loc d))
    (fun x => some (res0 m d x)) (idsW m d w) (nodes m d w ⟨k, hk⟩) j
instance DT_storable (k o hk h h' qo qd) (j : Fin 128) : BI.Storable (upEmb : UEmb _ 𝕄) (DT m d w c i k o hk h h' qo qd j) :=
  WmScatter.entryD_storable wE (V d c i) (tBlk o h) r1All gathers_S100000_S128 (xRow k h') rfl (by decide) fullShare qo qd (tsW m d w) (m (a1Loc d))
    (fun x => some (res1 m d x)) (idsW m d w) (nodes m d w ⟨k, hk⟩) j

theorem DR_join (k o : ℕ) (ho : o = 128 * k) (hk : k < 4) (h h') (qo qd : PosShare TreeShare) :
    bigSep Finset.univ (DR m d w c i k o hk h h' qo qd)
      ⊢ (iprop((r0Loc d ⇝{qd} (m (a0Loc d)) ⇒ (fun x => some (res0 m d x)) @ (marks0 m d w c i ⟨k, hk⟩))
          ∗ (xLoc d c i ↦[setX k]{qo} idsW m d w) ∗ (hLoc d c i ↦[setH k]{fullShare} rowW m d w)) : sProp 𝕄) := by
  rw [← set_xRow k h', ← set_hBlk k o ho h]
  exact WmScatter.entryD_join wE (V d c i) (hBlk o h) r0All gathers_S100000x128_S128x128 (xRow k h') rfl (by decide) fullShare qo qd (rowW m d w) (m (a0Loc d))
    (fun x => some (res0 m d x)) (idsW m d w) (nodes m d w ⟨k, hk⟩)

theorem DT_join (k o : ℕ) (ho : o = 128 * k) (hk : k < 4) (h h') (qo qd : PosShare TreeShare) :
    bigSep Finset.univ (DT m d w c i k o hk h h' qo qd)
      ⊢ (iprop((r1Loc d ⇝{qd} (m (a1Loc d)) ⇒ (fun x => some (res1 m d x)) @ (marks1 m d w c i ⟨k, hk⟩))
          ∗ (xLoc d c i ↦[setX k]{qo} idsW m d w) ∗ (tLoc d c i ↦[setT k]{fullShare} tsW m d w)) : sProp 𝕄) := by
  rw [← set_xRow k h', ← set_tBlk k o ho h]
  exact WmScatter.entryD_join wE (V d c i) (tBlk o h) r1All gathers_S100000_S128 (xRow k h') rfl (by decide) fullShare qo qd (tsW m d w) (m (a1Loc d))
    (fun x => some (res1 m d x)) (idsW m d w) (nodes m d w ⟨k, hk⟩)

set_option maxRecDepth 16384 in
/-- A scatter of the new rows, the whole of a batch of its own. -/
theorem step_scatterRow (hpre : PreOK m) (κ : ℕ) (k o : ℕ) (ho : o = 128 * k) (hk : k < 4) (h h') (sem : DmaSem sig)
    (qo qd : PosShare TreeShare) {α : Type} {kk : PUnit → Prog (TpuEff nD τ sig (Elt F) Λ₀ (.scVector c i)) α} {Q : α → sProp 𝕄} :
    iprop(wmI κ ∗ (r0Loc d ⇝{qd} (m (a0Loc d)) ⇒ (fun x => some (res0 m d x)) @ ∅) ∗ (hLoc d c i ↦[setH k]{fullShare} rowW m d w)
        ∗ (xLoc d c i ↦[setX k]{qo} idsW m d w) ∗ semVal (V d c i, SemLoc.dma sem) 0)
      ⊢ iprop((Transfers.Batch countersEmb (V d c i) (.dma sem) (default : HIx 3) 4096 (DR m d w c i k o hk h h' qo qd) 128 0
          -∗ wp frame (wpE (defs₀ (F := F)) 𝒱₀ (V d c i) none) Set.univ (kk ⟨⟩) Q)
        -∗ wp frame (wpE (defs₀ (F := F)) 𝒱₀ (V d c i) none) Set.univ
          (SparseCore.enqueueIndirectScatter rfl (hBlk o h) r0All gathers_S100000x128_S128x128 (xRow k h') rfl sem rfl (Or.inl rfl) >>= kk) Q) := by
  iintro ⟨#Hwm, Hr, Hh, Hx, Hsem⟩ Hk
  iapply fupd_wp
  imod (Transfers.batch_alloc' countersEmb (c := V d c i) (default : HIx 3) 4096 (DR m d w c i k o hk h h' qo qd)) $$ Hsem with HB
  imodintro
  iapply (WmScatter.wp_wmScatter wE countersEmb 𝒱₀ (V d c i) none (hBlk o h) r0All gathers_S100000x128_S128x128 (xRow k h') rfl (by decide) fullShare qo qd
      (rowW m d w) (m (a0Loc d)) (fun x => some (res0 m d x)) (idsW m d w) (nodes m d w ⟨k, hk⟩) (default : HIx 3) 4096 (DR m d w c i k o hk h h' qo qd) 0 0
      (show 0 + 128 ≤ 128 by omega) (Nat.zero_le _) (ids_inb m hpre d w k hk h') (nodes_rows m hpre d w k hk h' _) (fun _ => credit0 _) (adm0 m d w c i k o ho hk h)
      (fun j => Entails.of_eq (shift0 (F := F) _ j _))) $$ [Hr Hh Hx HB]
  · isplitr; · iexact Hwm
    isplitl [Hh]; · rw [set_hBlk k o ho h]; iexact Hh
    isplitl [Hr]; · iexact Hr
    isplitl [Hx]; · rw [set_xRow k h']; iexact Hx
    iexact HB
  iintro HB
  iapply Hk
  iexact HB

/-- A scatter of the time stamps, part `k` of the batch of the four. -/
theorem step_scatterTs (hpre : PreOK m) (κ : ℕ) (k o : ℕ) (ho : o = 128 * k) (hk : k < 4) (h h') (sem : DmaSem sig)
    (qo qd : PosShare TreeShare) (D : Fin 512 → sProp 𝕄) (hD : ∀ j : Fin 128, DT m d w c i k o hk h h' qo qd j = D ⟨o + j.val, by omega⟩)
    {α : Type} {kk : PUnit → Prog (TpuEff nD τ sig (Elt F) Λ₀ (.scVector c i)) α} {Q : α → sProp 𝕄} :
    iprop(wmI κ ∗ (r1Loc d ⇝{qd} (m (a1Loc d)) ⇒ (fun x => some (res1 m d x)) @ ∅) ∗ (tLoc d c i ↦[setT k]{fullShare} tsW m d w)
        ∗ (xLoc d c i ↦[setX k]{qo} idsW m d w) ∗ Transfers.Batch countersEmb (V d c i) (.dma sem) (default : HIx 3) 32 D o 0)
      ⊢ iprop((Transfers.Batch countersEmb (V d c i) (.dma sem) (default : HIx 3) 32 D (o + 128) 0
          -∗ wp frame (wpE (defs₀ (F := F)) 𝒱₀ (V d c i) none) Set.univ (kk ⟨⟩) Q)
        -∗ wp frame (wpE (defs₀ (F := F)) 𝒱₀ (V d c i) none) Set.univ
          (SparseCore.enqueueIndirectScatter rfl (tBlk o h) r1All gathers_S100000_S128 (xRow k h') rfl sem rfl (Or.inl rfl) >>= kk) Q) := by
  iintro ⟨#Hwm, Hr, Hh, Hx, HB⟩ Hk
  iapply (WmScatter.wp_wmScatter wE countersEmb 𝒱₀ (V d c i) none (tBlk o h) r1All gathers_S100000_S128 (xRow k h') rfl (by decide) fullShare qo qd
      (tsW m d w) (m (a1Loc d)) (fun x => some (res1 m d x)) (idsW m d w) (nodes m d w ⟨k, hk⟩) (default : HIx 3) 32 D o 0
      (show o + 128 ≤ 512 by omega) (Nat.zero_le _) (ids_inb m hpre d w k hk h') (nodes_rows m hpre d w k hk h' _) (fun _ => rfl) (adm1 m d w c i k o ho hk h)
      (fun j => Entails.of_eq (hD j))) $$ [Hr Hh Hx HB]
  · isplitr; · iexact Hwm
    isplitl [Hh]; · rw [set_tBlk k o ho h]; iexact Hh
    isplitl [Hr]; · iexact Hr
    isplitl [Hx]; · rw [set_xRow k h']; iexact Hx
    iexact HB
  iintro HB
  iapply Hk
  iexact HB

end Scatter

end Cert.Proof.Main

end
-- ==== Proof.ScatterTile.lean ====
/-
  The task of the scatter call: task `w` reads its 512 node numbers, gathers for each the winning
  position, that position's new row and time stamp, and scatters these to the results, every
  position of a node writing the same values.
-/
module

public import proofs.«01_k».proof.Proof.ScatterSteps

@[expose] public section

noncomputable section

namespace Cert.Proof.Main

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 3) (Elt F) ℕ (UU F) ℕ
local notation:60 ℓ " ⇝{" q "} " f:max " ⇒ " g:max " @ " W:max => willBeTo wE ℓ Finset.univ q f g W

variable (m : (ℓ : Loc nD τ sig) → Buf (Elt F) ℓ)

namespace Scatter

variable (d : Dev nD) (L : grid4.Coords)

theorem off1_eq : ∀ (c : Fin 2) (i : Fin 16), k4_off1 (coordsV c i) 0 = 2 * i.val + c.val ∧ k4_off1 (coordsV c i) 1 = 0 ∧ k4_off1 (coordsV c i) 2 = 0 := by decide

theorem coords_eta : L = coordsV (L 0) (L 1) := by
  funext a; match a with | 0 => rfl | 1 => rfl

abbrev iRow : HMem S4x128 .i32 :=
  ((iV).slice (Rect.unit (s := S32x4x128) (k4_off1 L) S1x4x128.size (k4_off1_inb L)) (fun _ => rfl)).squeeze S4x128 squeezes_S1x4x128_S4x128

theorem emb_iRow (k : Fin 4) (l : Fin 128) : (iRow L).view.emb (ix2 k l) = (ix3 (wL L) k l : S32x4x128.Idx) := by
  have e : Shape.reshapeEquiv squeezes_S1x4x128_S4x128.numel_eq (ix2 k l : S4x128.Idx) = (ix3 0 k l : S1x4x128.Idx) :=
    Shape.reshapeEquiv_eq_of_rowMajor _ (by
      have e1 : ((S4x128.rowMajor (ix2 k l : S4x128.Idx)) : ℕ) = k.val * 128 + l.val := rowMajor_val2 _ 128 rfl
      have e2 : ((S1x4x128.rowMajor (ix3 0 k l : S1x4x128.Idx)) : ℕ) = 0 * 512 + k.val * 128 + l.val := rowMajor_val3 _ 512 128 rfl rfl
      rw [e1, e2]; omega)
  refine (congrArg (fun y => ((View.whole (main_v6_scv : Ref sig .scVector)).slice (Rect.unit (s := S32x4x128) (k4_off1 L) S1x4x128.size (k4_off1_inb L))).emb y) e).trans ?_
  have h := off1_eq (L 0) (L 1); rw [← coords_eta] at h
  funext a; match a with
  | 0 => exact Fin.ext (show k4_off1 L 0 + 1 * 0 = 2 * (L 1).val + (L 0).val by rw [h.1]; omega)
  | 1 => exact Fin.ext (show k4_off1 L 1 + 1 * k.val = k.val by rw [h.2.1]; omega)
  | 2 => exact Fin.ext (show k4_off1 L 2 + 1 * l.val = l.val by rw [h.2.2]; omega)

theorem ids3_apply (w : Fin 32) (k : Fin 4) (l : Fin 128) : ids3 m d (ix3 w k l) = m (a2Loc d) (ix1 (pos4 w k l)) := by
  refine congrArg (m (a2Loc d)) ?_
  refine Shape.reshapeEquiv_eq_of_rowMajor _ ?_
  have e1 : ((S32x4x128.rowMajor (ix3 w k l : S32x4x128.Idx)) : ℕ) = w.val * 512 + k.val * 128 + l.val := rowMajor_val3 _ 512 128 rfl rfl
  have e2 : ((S16384.rowMajor (ix1 (pos4 w k l) : S16384.Idx)) : ℕ) = 512 * w.val + 128 * k.val + l.val := rowMajor_val1 _
  refine e2.trans ?_; rw [e1]; omega

theorem ids_read : (iRow L).view.read (Elt F) (ids3 m d) = idsW m d (wL L) := by
  funext x
  obtain ⟨k, l, rfl⟩ : ∃ (k : Fin 4) (l : Fin 128), x = (ix2 k l : S4x128.Idx) := ⟨x 0, x 1, (ix2_eta x).symm⟩
  refine ((View.read_apply _ _).trans (cast_eq _ _)).trans ?_
  exact (congrArg (ids3 m d) (emb_iRow L k l)).trans (ids3_apply m d (wL L) k l)

theorem bigSep4 (Φ : Fin 4 → sProp 𝕄) : bigSep Finset.univ Φ = iprop(Φ 0 ∗ Φ 1 ∗ Φ 2 ∗ Φ 3) := by
  rw [bigSep_univ_succ (Ix := HIx 3) (Name := ℕ) (U := UU F) (Lvl := ℕ), bigSep_univ_succ (Ix := HIx 3) (Name := ℕ) (U := UU F) (Lvl := ℕ), bigSep_univ_succ (Ix := HIx 3) (Name := ℕ) (U := UU F) (Lvl := ℕ), bigSep_univ_succ (Ix := HIx 3) (Name := ℕ) (U := UU F) (Lvl := ℕ)]
  simp only [Finset.univ_eq_empty, BI.bigSep_empty]
  refine BI.Entails.antisymm (?_ : (iprop(Φ 0 ∗ Φ 1 ∗ Φ 2 ∗ Φ 3 ∗ emp) : sProp 𝕄) ⊢ iprop(Φ 0 ∗ Φ 1 ∗ Φ 2 ∗ Φ 3))
    (?_ : (iprop(Φ 0 ∗ Φ 1 ∗ Φ 2 ∗ Φ 3) : sProp 𝕄) ⊢ iprop(Φ 0 ∗ Φ 1 ∗ Φ 2 ∗ Φ 3 ∗ emp))
  · iintro ⟨A, B, C, D, -⟩
    isplitl [A]; · iexact A
    isplitl [B]; · iexact B
    isplitl [C]; · iexact C
    iexact D
  · iintro ⟨A, B, C, D⟩
    isplitl [A]; · iexact A
    isplitl [B]; · iexact B
    isplitl [C]; · iexact C
    isplitl [D]; · iexact D
    iempintro

theorem bigSep2 (Φ : Fin 2 → sProp 𝕄) : bigSep Finset.univ Φ = iprop(Φ 0 ∗ Φ 1) := by
  rw [bigSep_univ_succ (Ix := HIx 3) (Name := ℕ) (U := UU F) (Lvl := ℕ), bigSep_univ_succ (Ix := HIx 3) (Name := ℕ) (U := UU F) (Lvl := ℕ)]
  simp only [Finset.univ_eq_empty, BI.bigSep_empty]
  refine BI.Entails.antisymm (?_ : (iprop(Φ 0 ∗ Φ 1 ∗ emp) : sProp 𝕄) ⊢ iprop(Φ 0 ∗ Φ 1)) (?_ : (iprop(Φ 0 ∗ Φ 1) : sProp 𝕄) ⊢ iprop(Φ 0 ∗ Φ 1 ∗ emp))
  · iintro ⟨A, B, -⟩
    isplitl [A]; · iexact A
    iexact B
  · iintro ⟨A, B⟩
    isplitl [A]; · iexact A
    isplitl [B]; · iexact B
    iempintro

/-- Elements held whole are held by halves. -/
theorem pts_half {ℓ : Loc nD τ sig} (I : Finset (Idx ℓ)) (f : Buf (Elt F) ℓ) :
    (ℓ ↦[I]{fullShare} f : sProp 𝕄) = iprop((ℓ ↦[I]{half 0} f) ∗ (ℓ ↦[I]{half 1} f)) := by
  rw [pointsTo_piecesOf I f (show 0 < 2 by decide) fullShare, bigSep2]

/-- A quarter of a share. -/
abbrev qt (q : PosShare TreeShare) (k : Fin 4) : PosShare TreeShare := pieceOf q 4 (by decide) k

theorem pts_quarters {ℓ : Loc nD τ sig} (I : Finset (Idx ℓ)) (q : PosShare TreeShare) (f : Buf (Elt F) ℓ) :
    (ℓ ↦[I]{q} f : sProp 𝕄) = iprop((ℓ ↦[I]{qt q 0} f) ∗ (ℓ ↦[I]{qt q 1} f) ∗ (ℓ ↦[I]{qt q 2} f) ∗ (ℓ ↦[I]{qt q 3} f)) := by
  rw [pointsTo_piecesOf I f (show 0 < 4 by decide) q, bigSep4]

theorem will_quarters {ℓ : Loc nD τ sig} (q : PosShare TreeShare) (f : Buf (Elt F) ℓ) (g : Tgt (Elt F) ℓ) :
    (ℓ ⇝{q} f ⇒ g @ ∅ : sProp 𝕄)
      = iprop((ℓ ⇝{qt q 0} f ⇒ g @ ∅) ∗ (ℓ ⇝{qt q 1} f ⇒ g @ ∅) ∗ (ℓ ⇝{qt q 2} f ⇒ g @ ∅) ∗ (ℓ ⇝{qt q 3} f ⇒ g @ ∅)) := by
  rw [WmScatter.willBeTo_piecesOf_empty wE Finset.univ f g (show 0 < 4 by decide) q, bigSep4]

theorem will_join {ℓ : Loc nD τ sig} (q : PosShare TreeShare) (f : Buf (Elt F) ℓ) (g : Tgt (Elt F) ℓ) (W : Fin 4 → Finset (Idx ℓ)) :
    iprop((ℓ ⇝{qt q 0} f ⇒ g @ (W 0)) ∗ (ℓ ⇝{qt q 1} f ⇒ g @ (W 1)) ∗ (ℓ ⇝{qt q 2} f ⇒ g @ (W 2)) ∗ (ℓ ⇝{qt q 3} f ⇒ g @ (W 3)))
      = (ℓ ⇝{q} f ⇒ g @ (Finset.univ.biUnion W) : sProp 𝕄) := by
  rw [← WmScatter.willBeTo_piecesOf wE Finset.univ f g (show 0 < 4 by decide) q W, bigSep4]

/-! ## The task's semaphores and buffers -/

def sems : Fin 10 → DmaSem sig := ![cc4_scratch4.sem, cc4_scratch5.sem, cc4_scratch6.sem, cc4_scratch7.sem, cc4_scratch8.sem, cc4_scratch9.sem,
  cc4_scratch10.sem, cc4_scratch11.sem, cc4_scratch13.sem, cc4_scoped0.sem]
theorem sems_inj : Function.Injective sems := by decide
theorem sems_scoped : ∀ j, (SemLoc.dma (sems j) : SemLoc sig).isScoped .scVector = true := by decide

def semEmb (c : Fin τ.nSC) (i : Fin τ.nSub) : Fin 10 ↪ GSem nD τ sig :=
  ⟨fun j => (V d c i, .dma (sems j)), fun a b h => sems_inj (SemLoc.dma.inj (Prod.mk.inj h).2)⟩

theorem ownSems0_V (c : Fin τ.nSC) (i : Fin τ.nSub) :
    (ownSems0 (V d c i) : sProp 𝕄)
      = iprop((semVal (V d c i, SemLoc.dma cc4_scratch4.sem) 0 ∗ semVal (V d c i, SemLoc.dma cc4_scratch5.sem) 0 ∗ semVal (V d c i, SemLoc.dma cc4_scratch6.sem) 0 ∗ semVal (V d c i, SemLoc.dma cc4_scratch7.sem) 0 ∗ semVal (V d c i, SemLoc.dma cc4_scratch8.sem) 0 ∗ semVal (V d c i, SemLoc.dma cc4_scratch9.sem) 0 ∗ semVal (V d c i, SemLoc.dma cc4_scratch10.sem) 0 ∗ semVal (V d c i, SemLoc.dma cc4_scratch11.sem) 0 ∗ semVal (V d c i, SemLoc.dma cc4_scratch13.sem) 0 ∗ semVal (V d c i, SemLoc.dma cc4_scoped0.sem) 0)
          ∗ bigSep (ownCells (V d c i) \ Finset.univ.map (semEmb d c i)) fun g => semVal g 0) := by
  unfold SparseCore.Cfg.ownSems0
  rw [SparseCore.bigSep_sdiff_split' (t := Finset.univ.map (semEmb d c i)) (fun g hg => by
      obtain ⟨j, -, rfl⟩ := Finset.mem_map.mp hg
      exact mem_ownCells.mpr ⟨rfl, sems_scoped j⟩), SparseCore.bigSep_map]
  congr 1
  rw [bigSep_univ_succ (Ix := HIx 3) (Name := ℕ) (U := UU F) (Lvl := ℕ), bigSep_univ_succ (Ix := HIx 3) (Name := ℕ) (U := UU F) (Lvl := ℕ), bigSep_univ_succ (Ix := HIx 3) (Name := ℕ) (U := UU F) (Lvl := ℕ), bigSep_univ_succ (Ix := HIx 3) (Name := ℕ) (U := UU F) (Lvl := ℕ), bigSep_univ_succ (Ix := HIx 3) (Name := ℕ) (U := UU F) (Lvl := ℕ),
    bigSep_univ_succ (Ix := HIx 3) (Name := ℕ) (U := UU F) (Lvl := ℕ), bigSep4]
  rfl

def bufs : Fin 4 → Ref sig .scVector := ![cc4_scratch0, cc4_scratch1, cc4_scratch2, cc4_scratch3]
theorem bufs_inj : Function.Injective bufs := by decide
def bufEmb (c : Fin τ.nSC) (i : Fin τ.nSub) : Fin 4 ↪ DevRef τ sig :=
  ⟨fun j => (Proc.scVector c i).devRef (bufs j), fun _ _ h => bufs_inj (Proc.devRef_injective _ h)⟩
theorem bufs_owner (c : Fin τ.nSC) (i : Fin τ.nSub) (j : Fin 4) : (bufEmb c i j).owner = .proc (.scVector c i) := by
  match j with | 0 => rfl | 1 => rfl | 2 => rfl | 3 => rfl

theorem ownBufs_V (c : Fin τ.nSC) (i : Fin τ.nSub) :
    (ownBufs (V d c i) : sProp 𝕄)
      = iprop(((∃ f, xLoc d c i ↦{fullShare} f) ∗ (∃ f, wLoc d c i ↦{fullShare} f) ∗ (∃ f, hLoc d c i ↦{fullShare} f) ∗ (∃ f, tLoc d c i ↦{fullShare} f))
          ∗ bigSep (ownRefs (τ := τ) (.scVector c i) \ Finset.univ.map (bufEmb c i)) fun b => iprop(∃ f, ((d, b) : Loc nD τ sig) ↦{fullShare} f)) := by
  unfold SparseCore.Cfg.ownBufs
  rw [SparseCore.bigSep_sdiff_split' (t := Finset.univ.map (bufEmb c i)) (fun g hg => by
      obtain ⟨j, -, rfl⟩ := Finset.mem_map.mp hg
      exact SparseCore.Cfg.mem_ownRefs_of_owner (bufs_owner c i j)), SparseCore.bigSep_map]
  congr 1
  rw [bigSep4]; rfl

/-! ## The batch of the time stamps -/

theorem inbT (k : ℕ) (hk : k < 4) : ∀ a, (![128 * k] : Fin 1 → ℕ) a + S128.size a ≤ S512.size a := fun a => by
  match a with | 0 => show 128 * k + 128 ≤ 512; omega
theorem inbX (k : ℕ) (hk : k < 4) : ∀ a, (![k, 0] : Fin 2 → ℕ) a + S1x128.size a ≤ S4x128.size a := fun a => by
  match a with | 0 => show k + 1 ≤ 4; omega
               | 1 => show 0 + 128 ≤ 128; omega

/-- What entry `t` of the four scatters of time stamps delivers. -/
def DT4 (w : Fin 32) (c : Fin τ.nSC) (i : Fin τ.nSub) (q : PosShare TreeShare) (t : Fin 512) : sProp 𝕄 :=
  DT m d w c i (t.val / 128) (128 * (t.val / 128)) (by omega) (inbT _ (by omega)) (inbX _ (by omega)) (half 1) (qt q ⟨t.val / 128, by omega⟩)
    ⟨t.val % 128, by omega⟩

instance DT4_storable (w c i q t) : BI.Storable (upEmb : UEmb _ 𝕄) (DT4 m d w c i q t) := DT_storable m d w c i _ _ _ _ _ _ _ _

theorem DT_congr (w : Fin 32) (c : Fin τ.nSC) (i : Fin τ.nSub) (q : PosShare TreeShare) (k k' o o' : ℕ) (hk hk') (h g h' g') (j j' : Fin 128)
    (ek : k = k') (eo : o = o') (ej : j = j') :
    DT m d w c i k o hk h g (half 1) (qt q ⟨k, hk⟩) j = DT m d w c i k' o' hk' h' g' (half 1) (qt q ⟨k', hk'⟩) j' := by
  subst ek eo ej; rfl

theorem DT4_at (w : Fin 32) (c : Fin τ.nSC) (i : Fin τ.nSub) (q : PosShare TreeShare) (k o : ℕ) (ho : o = 128 * k) (hk : k < 4) (h h') (j : Fin 128)
    (hj : o + j.val < 512) :
    DT m d w c i k o hk h h' (half 1) (qt q ⟨k, hk⟩) j = DT4 m d w c i q ⟨o + j.val, hj⟩ :=
  DT_congr m d w c i q _ _ _ _ _ _ _ _ _ _ _ _ (by show k = (o + j.val) / 128; omega) (by show o = 128 * ((o + j.val) / 128); omega)
    (Fin.ext (by show j.val = (o + j.val) % 128; omega))

theorem DT4_split (w : Fin 32) (c : Fin τ.nSC) (i : Fin τ.nSub) (q : PosShare TreeShare) (h0 h1 h2 h3 g0 g1 g2 g3) :
    bigSep Finset.univ (DT4 m d w c i q)
      ⊢ (iprop(bigSep Finset.univ (DT m d w c i 0 0 (by decide) h0 g0 (half 1) (qt q 0)) ∗ bigSep Finset.univ (DT m d w c i 1 128 (by decide) h1 g1 (half 1) (qt q 1))
          ∗ bigSep Finset.univ (DT m d w c i 2 256 (by decide) h2 g2 (half 1) (qt q 2)) ∗ bigSep Finset.univ (DT m d w c i 3 384 (by decide) h3 g3 (half 1) (qt q 3))) : sProp 𝕄) := by
  have e0 : DT m d w c i 0 0 (by decide) h0 g0 (half 1) (qt q 0) = fun j => DT4 m d w c i q ⟨0 + j.val, by omega⟩ := funext fun j => DT4_at m d w c i q 0 0 rfl _ _ _ j _
  have e1 : DT m d w c i 1 128 (by decide) h1 g1 (half 1) (qt q 1) = fun j => DT4 m d w c i q ⟨0 + 128 + j.val, by omega⟩ := funext fun j => DT4_at m d w c i q 1 128 rfl _ _ _ j _
  have e2 : DT m d w c i 2 256 (by decide) h2 g2 (half 1) (qt q 2) = fun j => DT4 m d w c i q ⟨0 + 128 + 128 + j.val, by omega⟩ := funext fun j => DT4_at m d w c i q 2 256 rfl _ _ _ j _
  have e3 : DT m d w c i 3 384 (by decide) h3 g3 (half 1) (qt q 3) = fun j => DT4 m d w c i q ⟨0 + 128 + 128 + 128 + j.val, by omega⟩ := funext fun j => DT4_at m d w c i q 3 384 rfl _ _ _ j _
  rw [e0, e1, e2, e3, show (Finset.univ : Finset (Fin 512)) = Transfers.pending 0 from Transfers.pending_zero.symm,
    WmScatter.bigSep_pending_take (DT4 m d w c i q) 128 0 (by omega), WmScatter.bigSep_pending_take (DT4 m d w c i q) 128 (0 + 128) (by omega),
    WmScatter.bigSep_pending_take (DT4 m d w c i q) 128 (0 + 128 + 128) (by omega), WmScatter.bigSep_pending_take (DT4 m d w c i q) 128 (0 + 128 + 128 + 128) (by omega)]
  iintro ⟨A, B, C, D, -⟩
  isplitl [A]; · iexact A
  isplitl [B]; · iexact B
  isplitl [C] <;> iassumption

/-! ## The task -/

theorem lt4_0 : 0 < 4 := by decide
theorem lt4_1 : 1 < 4 := by decide
theorem lt4_2 : 2 < 4 := by decide
theorem lt4_3 : 3 < 4 := by decide

theorem defs₀_vector (c : Fin τ.nSC) (s : Fin τ.nSub) :
    defs₀ (F := F) (.scVector c s) 4 ()
      = SparseCore.onTile hcore4 hsub4 (fun c s => cc4__sc_scatter (coordsV c s) (Memref.whole main_v7_0_scv) (Memref.isWhole_whole _) (Memref.whole main_v7_1_scv) (Memref.isWhole_whole _) (Memref.whole main_v6_scv) (Memref.isWhole_whole _) (Memref.whole main_v1_scv) (Memref.isWhole_whole _) (Memref.whole main_v5_scv) (Memref.isWhole_whole _) (Memref.whole main_arg4_scv) (Memref.isWhole_whole _) (Memref.whole main_v7_0_scv) (Memref.isWhole_whole _) (Memref.whole main_v7_1_scv) (Memref.isWhole_whole _) (Memref.whole cc4_scratch0) (Memref.isWhole_whole _) (Memref.whole cc4_scratch1) (Memref.isWhole_whole _) (Memref.whole cc4_scratch2) (Memref.isWhole_whole _) (Memref.whole cc4_scratch3) (Memref.isWhole_whole _) cc4_scratch4 cc4_scratch5 cc4_scratch6 cc4_scratch7 cc4_scratch8 cc4_scratch9 cc4_scratch10 cc4_scratch11 cc4_scratch12 cc4_scratch13 cc4_scoped0) ⟨⟩ c s := rfl

theorem creditW (k h) : (wRow k h).view.dmaCredit = 4096 := by
  show (cc4_scratch1 : Ref sig .scVector).dmaCredit S128 .i32 = 4096
  decide
theorem creditH (o h) : (hBlk o h).view.dmaCredit = 524288 := by
  show (cc4_scratch2 : Ref sig .scVector).dmaCredit S128x128 .f32 = 524288
  decide
theorem creditT (o h) : (tBlk o h).view.dmaCredit = 4096 := by
  show (cc4_scratch3 : Ref sig .scVector).dmaCredit S128 .f32 = 4096
  decide

set_option maxRecDepth 16384 in
set_option maxHeartbeats 8000000 in
theorem tile_body (hF : (K (F := F)).Facts) (hpre : PreOK m) (O : CellTallies nD τ sig (HIx 3)) (W : Waits sig (HIx 3)) (hO : ∀ g, O g none = 0) :
    iprop(levAts (K (F := F)).L (K (F := F)).lev ∗ (∃ κ, wmI κ) ∗ goP m 2 d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc4__sc_scatter L (Memref.whole main_v7_0_scv) (Memref.isWhole_whole _) (Memref.whole main_v7_1_scv) (Memref.isWhole_whole _) (Memref.whole main_v6_scv) (Memref.isWhole_whole _) (Memref.whole main_v1_scv) (Memref.isWhole_whole _) (Memref.whole main_v5_scv) (Memref.isWhole_whole _) (Memref.whole main_arg4_scv) (Memref.isWhole_whole _) (Memref.whole main_v7_0_scv) (Memref.isWhole_whole _) (Memref.whole main_v7_1_scv) (Memref.isWhole_whole _) (Memref.whole cc4_scratch0) (Memref.isWhole_whole _) (Memref.whole cc4_scratch1) (Memref.isWhole_whole _) (Memref.whole cc4_scratch2) (Memref.isWhole_whole _) (Memref.whole cc4_scratch3) (Memref.isWhole_whole _) cc4_scratch4 cc4_scratch5 cc4_scratch6 cc4_scratch7 cc4_scratch8 cc4_scratch9 cc4_scratch10 cc4_scratch11 cc4_scratch12 cc4_scratch13 cc4_scoped0)
          fun _ => iprop(tdP m 2 d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc4__sc_scatter_eq_skeleton]; unfold cc4__sc_scatter_skel
  simp only [k4_part1_eq_skeleton, k4_part2_eq_skeleton, k4_part3_eq_skeleton, k4_part4_eq_skeleton, k4_part5_eq_skeleton, k4_part6_eq_skeleton, k4_part7_eq_skeleton]
  unfold k4_part1_skel k4_part2_skel k4_part3_skel k4_part4_skel k4_part5_skel k4_part6_skel k4_part7_skel
  simp only [SparseCore.waitIndirectGather, SparseCore.waitIndirectScatter, Prog.bind_assoc, Prog.bind_op, Prog.bind_ret, Prog.bind_lift, bind_assoc, pure_bind]
  rw [(K (F := F)).scopedBufs_V hF d (cV L) (jV L), SparseCore.Cfg.scopedSems0_V (Val := Elt F) d (cV L) (jV L), ownSems0_V, ownBufs_V]
  simp only [goP, tdP]
  iintro ⟨#Hlv, ⟨%κ, #Hwm⟩, ⟨Hi, Ha4, Hb5, ⟨%f, %hf, Hb1⟩, Hr0, Hr1⟩, ⟨⟨⟨%fx, Hx⟩, ⟨%fw, Hw⟩, ⟨%fh, Hh⟩, ⟨%ft, Ht⟩⟩, Hbufs⟩, ⟨⟨Sw0, Sw1, Sw2, Sw3, Sr0, Sr1, Sr2, Sr3, Ss, Sg⟩, Hsems⟩, HO⟩
  ihave Hmw := (show levAts (K (F := F)).L (K (F := F)).lev ⊢ Transfers.MayWaits (V d (cV L) (jV L)) (default : HIx 3) O from
    (K (F := F)).mayWaits_none (thr := V d (cV L) (jV L)) hO) $$ Hlv
  ihave Hi' := (Entails.of_eq (show (b6Loc d ↦[Finset.univ]{sh fullShare (wL L)} ids3 m d : sProp 𝕄) = ((iV).view.loc (V d (cV L) (jV L)) ↦[Finset.univ]{sh fullShare (wL L)} ids3 m d) from rfl)) $$ Hi
  ihave Hx' := (Entails.of_eq (show (xLoc d (cV L) (jV L) ↦{fullShare} fx : sProp 𝕄) = ((xV).view.loc (V d (cV L) (jV L)) ↦{fullShare} fx) from rfl)) $$ Hx
  sl_exec
  have hxe : View.write (Elt F) (xV).view fx (tile_body.sl.dma0 m d L) Finset.univ = idsW m d (wL L) := by
    rw [View.write_whole_univ]; exact ids_read m d L
  ihave Hx := (Entails.of_eq (show ((xV).view.loc (V d (cV L) (jV L)) ↦{fullShare} View.write (Elt F) (xV).view fx (tile_body.sl.dma0 m d L) Finset.univ : sProp 𝕄)
      = xLoc d (cV L) (jV L) ↦[Finset.univ]{fullShare} idsW m d (wL L) by rw [hxe])) $$ Hx'
  ihave Hx := (Entails.of_eq (pts4 (F := F) (ℓ := xLoc d (cV L) (jV L)) (fun x => (x 0).val) (fun x => (x 0).isLt) fullShare (idsW m d (wL L)))) $$ Hx
  icases Hx with ⟨Hx0, Hx1, Hx2, Hx3⟩
  ihave Hw := (Entails.of_eq (pts4 (F := F) (ℓ := wLoc d (cV L) (jV L)) (fun x => (x 0).val) (fun x => (x 0).isLt) fullShare fw)) $$ Hw
  icases Hw with ⟨Hw0, Hw1, Hw2, Hw3⟩
  ihave Hh := (Entails.of_eq (pts4 (F := F) (ℓ := hLoc d (cV L) (jV L)) (fun x => (x 0).val / 128) (fun x => Nat.div_lt_of_lt_mul (show (x 0).val < 128 * 4 from (x 0).isLt)) fullShare fh)) $$ Hh
  icases Hh with ⟨Hh0, Hh1, Hh2, Hh3⟩
  ihave Ht := (Entails.of_eq (pts4 (F := F) (ℓ := tLoc d (cV L) (jV L)) (fun x => (x 0).val / 128) (fun x => Nat.div_lt_of_lt_mul (show (x 0).val < 128 * 4 from (x 0).isLt)) fullShare ft)) $$ Ht
  icases Ht with ⟨Ht0, Ht1, Ht2, Ht3⟩
  ihave Hb1 := (Entails.of_eq (pts_quarters (F := F) Finset.univ _ f)) $$ Hb1
  icases Hb1 with ⟨Hp0, Hp1, Hp2, Hp3⟩
  ihave Hb5 := (Entails.of_eq (pts_quarters (F := F) Finset.univ _ (hNew m d))) $$ Hb5
  icases Hb5 with ⟨Hn0, Hn1, Hn2, Hn3⟩
  ihave Ha4 := (Entails.of_eq (pts_quarters (F := F) Finset.univ _ (m (a4Loc d)))) $$ Ha4
  icases Ha4 with ⟨Hs0, Hs1, Hs2, Hs3⟩
  ihave Hr0 := (Entails.of_eq (will_quarters (F := F) (ℓ := r0Loc d) _ (m (a0Loc d)) _)) $$ Hr0
  icases Hr0 with ⟨Ha0, Ha1, Ha2, Ha3⟩
  ihave Hr1 := (Entails.of_eq (will_quarters (F := F) (ℓ := r1Loc d) _ (m (a1Loc d)) _)) $$ Hr1
  icases Hr1 with ⟨Hc0, Hc1, Hc2, Hc3⟩
  iapply (step_win m d (wL L) (cV L) (jV L) hpre f hf 0 (by decide) inb_S4x128_S1x128_0_0 inb_S4x128_S1x128_0_0 cc4_scratch4.sem _ fullShare fw) $$ [Hp0 Hw0 Hx0 Sw0]
  · isplitl [Hp0]; · iexact Hp0
    isplitl [Hw0]; · iexact Hw0
    isplitl [Hx0]; · iexact Hx0
    iexact Sw0
  iintro Fw0
  iapply (step_win m d (wL L) (cV L) (jV L) hpre f hf 1 (by decide) inb_S4x128_S1x128_1_0 inb_S4x128_S1x128_1_0 cc4_scratch5.sem _ fullShare fw) $$ [Hp1 Hw1 Hx1 Sw1]
  · isplitl [Hp1]; · iexact Hp1
    isplitl [Hw1]; · iexact Hw1
    isplitl [Hx1]; · iexact Hx1
    iexact Sw1
  iintro Fw1
  iapply (step_win m d (wL L) (cV L) (jV L) hpre f hf 2 (by decide) inb_S4x128_S1x128_2_0 inb_S4x128_S1x128_2_0 cc4_scratch6.sem _ fullShare fw) $$ [Hp2 Hw2 Hx2 Sw2]
  · isplitl [Hp2]; · iexact Hp2
    isplitl [Hw2]; · iexact Hw2
    isplitl [Hx2]; · iexact Hx2
    iexact Sw2
  iintro Fw2
  iapply (step_win m d (wL L) (cV L) (jV L) hpre f hf 3 (by decide) inb_S4x128_S1x128_3_0 inb_S4x128_S1x128_3_0 cc4_scratch7.sem _ fullShare fw) $$ [Hp3 Hw3 Hx3 Sw3]
  · isplitl [Hp3]; · iexact Hp3
    isplitl [Hw3]; · iexact Hw3
    isplitl [Hx3]; · iexact Hx3
    iexact Sw3
  iintro Fw3
  iapply (Transfers.wp_waitLocalO countersEmb 𝒱₀ (V d (cV L) (jV L)) none (default : HIx 3) (creditW 0 inb_S4x128_S1x128_0_0)) $$ [Fw0 HO]
  · isplitl [Fw0]; · iexact Fw0
    isplitl [HO]; · iexact HO
    iapply (Transfers.MayWaits.elim (SemLoc.dma cc4_scratch4.sem)) $$ Hmw
  iintro ⟨⟨Hw0, Hp0, Hx0⟩, Sw0, HO⟩
  ihave Hw0 := (Entails.of_eq (pts_half (F := F) _ _)) $$ Hw0
  icases Hw0 with ⟨Hw0, Hv0⟩
  iapply (step_row m d (wL L) (cV L) (jV L) 0 0 rfl (by decide) inb_S512x128_S128x128_0_0 inb_S4x128_S1x128_0_0 cc4_scratch8.sem _ (half 0) fh) $$ [Hn0 Hh0 Hw0 Sr0]
  · isplitl [Hn0]; · iexact Hn0
    isplitl [Hh0]; · iexact Hh0
    isplitl [Hw0]; · iexact Hw0
    iexact Sr0
  iintro Fr0
  iapply (Transfers.wp_waitLocalO countersEmb 𝒱₀ (V d (cV L) (jV L)) none (default : HIx 3) (creditW 1 inb_S4x128_S1x128_1_0)) $$ [Fw1 HO]
  · isplitl [Fw1]; · iexact Fw1
    isplitl [HO]; · iexact HO
    iapply (Transfers.MayWaits.elim (SemLoc.dma cc4_scratch5.sem)) $$ Hmw
  iintro ⟨⟨Hw1, Hp1, Hx1⟩, Sw1, HO⟩
  ihave Hw1 := (Entails.of_eq (pts_half (F := F) _ _)) $$ Hw1
  icases Hw1 with ⟨Hw1, Hv1⟩
  iapply (step_row m d (wL L) (cV L) (jV L) 1 128 rfl (by decide) inb_S512x128_S128x128_128_0 inb_S4x128_S1x128_1_0 cc4_scratch9.sem _ (half 0) fh) $$ [Hn1 Hh1 Hw1 Sr1]
  · isplitl [Hn1]; · iexact Hn1
    isplitl [Hh1]; · iexact Hh1
    isplitl [Hw1]; · iexact Hw1
    iexact Sr1
  iintro Fr1
  iapply (Transfers.wp_waitLocalO countersEmb 𝒱₀ (V d (cV L) (jV L)) none (default : HIx 3) (creditW 2 inb_S4x128_S1x128_2_0)) $$ [Fw2 HO]
  · isplitl [Fw2]; · iexact Fw2
    isplitl [HO]; · iexact HO
    iapply (Transfers.MayWaits.elim (SemLoc.dma cc4_scratch6.sem)) $$ Hmw
  iintro ⟨⟨Hw2, Hp2, Hx2⟩, Sw2, HO⟩
  ihave Hw2 := (Entails.of_eq (pts_half (F := F) _ _)) $$ Hw2
  icases Hw2 with ⟨Hw2, Hv2⟩
  iapply (step_row m d (wL L) (cV L) (jV L) 2 256 rfl (by decide) inb_S512x128_S128x128_256_0 inb_S4x128_S1x128_2_0 cc4_scratch10.sem _ (half 0) fh) $$ [Hn2 Hh2 Hw2 Sr2]
  · isplitl [Hn2]; · iexact Hn2
    isplitl [Hh2]; · iexact Hh2
    isplitl [Hw2]; · iexact Hw2
    iexact Sr2
  iintro Fr2
  iapply (Transfers.wp_waitLocalO countersEmb 𝒱₀ (V d (cV L) (jV L)) none (default : HIx 3) (creditW 3 inb_S4x128_S1x128_3_0)) $$ [Fw3 HO]
  · isplitl [Fw3]; · iexact Fw3
    isplitl [HO]; · iexact HO
    iapply (Transfers.MayWaits.elim (SemLoc.dma cc4_scratch7.sem)) $$ Hmw
  iintro ⟨⟨Hw3, Hp3, Hx3⟩, Sw3, HO⟩
  ihave Hw3 := (Entails.of_eq (pts_half (F := F) _ _)) $$ Hw3
  icases Hw3 with ⟨Hw3, Hv3⟩
  iapply (step_row m d (wL L) (cV L) (jV L) 3 384 rfl (by decide) inb_S512x128_S128x128_384_0 inb_S4x128_S1x128_3_0 cc4_scratch11.sem _ (half 0) fh) $$ [Hn3 Hh3 Hw3 Sr3]
  · isplitl [Hn3]; · iexact Hn3
    isplitl [Hh3]; · iexact Hh3
    isplitl [Hw3]; · iexact Hw3
    iexact Sr3
  iintro Fr3
  iapply (step_ts m d (wL L) (cV L) (jV L) 0 0 rfl (by decide) inb_S512_S128_0 inb_S4x128_S1x128_0_0 cc4_scratch4.sem _ (half 1) ft) $$ [Hs0 Ht0 Hv0 Sw0]
  · isplitl [Hs0]; · iexact Hs0
    isplitl [Ht0]; · iexact Ht0
    isplitl [Hv0]; · iexact Hv0
    iexact Sw0
  iintro Ft0
  iapply (step_ts m d (wL L) (cV L) (jV L) 1 128 rfl (by decide) inb_S512_S128_128 inb_S4x128_S1x128_1_0 cc4_scratch5.sem _ (half 1) ft) $$ [Hs1 Ht1 Hv1 Sw1]
  · isplitl [Hs1]; · iexact Hs1
    isplitl [Ht1]; · iexact Ht1
    isplitl [Hv1]; · iexact Hv1
    iexact Sw1
  iintro Ft1
  iapply (step_ts m d (wL L) (cV L) (jV L) 2 256 rfl (by decide) inb_S512_S128_256 inb_S4x128_S1x128_2_0 cc4_scratch6.sem _ (half 1) ft) $$ [Hs2 Ht2 Hv2 Sw2]
  · isplitl [Hs2]; · iexact Hs2
    isplitl [Ht2]; · iexact Ht2
    isplitl [Hv2]; · iexact Hv2
    iexact Sw2
  iintro Ft2
  iapply (step_ts m d (wL L) (cV L) (jV L) 3 384 rfl (by decide) inb_S512_S128_384 inb_S4x128_S1x128_3_0 cc4_scratch7.sem _ (half 1) ft) $$ [Hs3 Ht3 Hv3 Sw3]
  · isplitl [Hs3]; · iexact Hs3
    isplitl [Ht3]; · iexact Ht3
    isplitl [Hv3]; · iexact Hv3
    iexact Sw3
  iintro Ft3
  iapply (Transfers.wp_waitLocalO countersEmb 𝒱₀ (V d (cV L) (jV L)) none (default : HIx 3) (creditH 0 inb_S512x128_S128x128_0_0)) $$ [Fr0 HO]
  · isplitl [Fr0]; · iexact Fr0
    isplitl [HO]; · iexact HO
    iapply (Transfers.MayWaits.elim (SemLoc.dma cc4_scratch8.sem)) $$ Hmw
  iintro ⟨⟨Hh0, Hn0, Hw0⟩, Sr0, HO⟩
  ihave Hx0 := (Entails.of_eq (pts_half (F := F) _ _)) $$ Hx0
  icases Hx0 with ⟨Hx0, Hy0⟩
  iapply (step_scatterRow m d (wL L) (cV L) (jV L) hpre κ 0 0 rfl (by decide) inb_S512x128_S128x128_0_0 inb_S4x128_S1x128_0_0 cc4_scratch8.sem (half 0) (qt (sh fullShare (wL L)) 0)) $$ [Ha0 Hh0 Hx0 Sr0]
  · isplitr; · iexact Hwm
    isplitl [Ha0]; · iexact Ha0
    isplitl [Hh0]; · iexact Hh0
    isplitl [Hx0]; · iexact Hx0
    iexact Sr0
  iintro BR0
  iapply (Transfers.wp_waitLocalO countersEmb 𝒱₀ (V d (cV L) (jV L)) none (default : HIx 3) (creditH 128 inb_S512x128_S128x128_128_0)) $$ [Fr1 HO]
  · isplitl [Fr1]; · iexact Fr1
    isplitl [HO]; · iexact HO
    iapply (Transfers.MayWaits.elim (SemLoc.dma cc4_scratch9.sem)) $$ Hmw
  iintro ⟨⟨Hh1, Hn1, Hw1⟩, Sr1, HO⟩
  ihave Hx1 := (Entails.of_eq (pts_half (F := F) _ _)) $$ Hx1
  icases Hx1 with ⟨Hx1, Hy1⟩
  iapply (step_scatterRow m d (wL L) (cV L) (jV L) hpre κ 1 128 rfl (by decide) inb_S512x128_S128x128_128_0 inb_S4x128_S1x128_1_0 cc4_scratch9.sem (half 0) (qt (sh fullShare (wL L)) 1)) $$ [Ha1 Hh1 Hx1 Sr1]
  · isplitr; · iexact Hwm
    isplitl [Ha1]; · iexact Ha1
    isplitl [Hh1]; · iexact Hh1
    isplitl [Hx1]; · iexact Hx1
    iexact Sr1
  iintro BR1
  iapply (Transfers.wp_waitLocalO countersEmb 𝒱₀ (V d (cV L) (jV L)) none (default : HIx 3) (creditH 256 inb_S512x128_S128x128_256_0)) $$ [Fr2 HO]
  · isplitl [Fr2]; · iexact Fr2
    isplitl [HO]; · iexact HO
    iapply (Transfers.MayWaits.elim (SemLoc.dma cc4_scratch10.sem)) $$ Hmw
  iintro ⟨⟨Hh2, Hn2, Hw2⟩, Sr2, HO⟩
  ihave Hx2 := (Entails.of_eq (pts_half (F := F) _ _)) $$ Hx2
  icases Hx2 with ⟨Hx2, Hy2⟩
  iapply (step_scatterRow m d (wL L) (cV L) (jV L) hpre κ 2 256 rfl (by decide) inb_S512x128_S128x128_256_0 inb_S4x128_S1x128_2_0 cc4_scratch10.sem (half 0) (qt (sh fullShare (wL L)) 2)) $$ [Ha2 Hh2 Hx2 Sr2]
  · isplitr; · iexact Hwm
    isplitl [Ha2]; · iexact Ha2
    isplitl [Hh2]; · iexact Hh2
    isplitl [Hx2]; · iexact Hx2
    iexact Sr2
  iintro BR2
  iapply (Transfers.wp_waitLocalO countersEmb 𝒱₀ (V d (cV L) (jV L)) none (default : HIx 3) (creditH 384 inb_S512x128_S128x128_384_0)) $$ [Fr3 HO]
  · isplitl [Fr3]; · iexact Fr3
    isplitl [HO]; · iexact HO
    iapply (Transfers.MayWaits.elim (SemLoc.dma cc4_scratch11.sem)) $$ Hmw
  iintro ⟨⟨Hh3, Hn3, Hw3⟩, Sr3, HO⟩
  ihave Hx3 := (Entails.of_eq (pts_half (F := F) _ _)) $$ Hx3
  icases Hx3 with ⟨Hx3, Hy3⟩
  iapply (step_scatterRow m d (wL L) (cV L) (jV L) hpre κ 3 384 rfl (by decide) inb_S512x128_S128x128_384_0 inb_S4x128_S1x128_3_0 cc4_scratch11.sem (half 0) (qt (sh fullShare (wL L)) 3)) $$ [Ha3 Hh3 Hx3 Sr3]
  · isplitr; · iexact Hwm
    isplitl [Ha3]; · iexact Ha3
    isplitl [Hh3]; · iexact Hh3
    isplitl [Hx3]; · iexact Hx3
    iexact Sr3
  iintro BR3
  iapply (Transfers.wp_waitLocalO countersEmb 𝒱₀ (V d (cV L) (jV L)) none (default : HIx 3) (creditT 0 inb_S512_S128_0)) $$ [Ft0 HO]
  · isplitl [Ft0]; · iexact Ft0
    isplitl [HO]; · iexact HO
    iapply (Transfers.MayWaits.elim (SemLoc.dma cc4_scratch4.sem)) $$ Hmw
  iintro ⟨⟨Ht0, Hs0, Hv0⟩, Sw0, HO⟩
  iapply (Transfers.wp_waitLocalO countersEmb 𝒱₀ (V d (cV L) (jV L)) none (default : HIx 3) (creditT 128 inb_S512_S128_128)) $$ [Ft1 HO]
  · isplitl [Ft1]; · iexact Ft1
    isplitl [HO]; · iexact HO
    iapply (Transfers.MayWaits.elim (SemLoc.dma cc4_scratch5.sem)) $$ Hmw
  iintro ⟨⟨Ht1, Hs1, Hv1⟩, Sw1, HO⟩
  iapply (Transfers.wp_waitLocalO countersEmb 𝒱₀ (V d (cV L) (jV L)) none (default : HIx 3) (creditT 256 inb_S512_S128_256)) $$ [Ft2 HO]
  · isplitl [Ft2]; · iexact Ft2
    isplitl [HO]; · iexact HO
    iapply (Transfers.MayWaits.elim (SemLoc.dma cc4_scratch6.sem)) $$ Hmw
  iintro ⟨⟨Ht2, Hs2, Hv2⟩, Sw2, HO⟩
  iapply (Transfers.wp_waitLocalO countersEmb 𝒱₀ (V d (cV L) (jV L)) none (default : HIx 3) (creditT 384 inb_S512_S128_384)) $$ [Ft3 HO]
  · isplitl [Ft3]; · iexact Ft3
    isplitl [HO]; · iexact HO
    iapply (Transfers.MayWaits.elim (SemLoc.dma cc4_scratch7.sem)) $$ Hmw
  iintro ⟨⟨Ht3, Hs3, Hv3⟩, Sw3, HO⟩
  iapply fupd_wp
  imod (Transfers.batch_alloc' countersEmb (c := (V d (cV L) (jV L))) (default : HIx 3) 32 (DT4 m d (wL L) (cV L) (jV L) (sh fullShare (wL L)))) $$ Ss with BT
  imodintro
  iapply (step_scatterTs m d (wL L) (cV L) (jV L) hpre κ 0 0 rfl (by decide) inb_S512_S128_0 inb_S4x128_S1x128_0_0 cc4_scratch13.sem (half 1) (qt (sh fullShare (wL L)) 0)
      (DT4 m d (wL L) (cV L) (jV L) (sh fullShare (wL L))) (fun j => DT4_at m d (wL L) (cV L) (jV L) _ 0 0 rfl (by decide) _ _ j _)) $$ [Hc0 Ht0 Hy0 BT]
  · isplitr; · iexact Hwm
    isplitl [Hc0]; · iexact Hc0
    isplitl [Ht0]; · iexact Ht0
    isplitl [Hy0]; · iexact Hy0
    iexact BT
  iintro BT
  iapply (step_scatterTs m d (wL L) (cV L) (jV L) hpre κ 1 128 rfl (by decide) inb_S512_S128_128 inb_S4x128_S1x128_1_0 cc4_scratch13.sem (half 1) (qt (sh fullShare (wL L)) 1)
      (DT4 m d (wL L) (cV L) (jV L) (sh fullShare (wL L))) (fun j => DT4_at m d (wL L) (cV L) (jV L) _ 1 128 rfl (by decide) _ _ j _)) $$ [Hc1 Ht1 Hy1 BT]
  · isplitr; · iexact Hwm
    isplitl [Hc1]; · iexact Hc1
    isplitl [Ht1]; · iexact Ht1
    isplitl [Hy1]; · iexact Hy1
    iexact BT
  iintro BT
  iapply (step_scatterTs m d (wL L) (cV L) (jV L) hpre κ 2 256 rfl (by decide) inb_S512_S128_256 inb_S4x128_S1x128_2_0 cc4_scratch13.sem (half 1) (qt (sh fullShare (wL L)) 2)
      (DT4 m d (wL L) (cV L) (jV L) (sh fullShare (wL L))) (fun j => DT4_at m d (wL L) (cV L) (jV L) _ 2 256 rfl (by decide) _ _ j _)) $$ [Hc2 Ht2 Hy2 BT]
  · isplitr; · iexact Hwm
    isplitl [Hc2]; · iexact Hc2
    isplitl [Ht2]; · iexact Ht2
    isplitl [Hy2]; · iexact Hy2
    iexact BT
  iintro BT
  iapply (step_scatterTs m d (wL L) (cV L) (jV L) hpre κ 3 384 rfl (by decide) inb_S512_S128_384 inb_S4x128_S1x128_3_0 cc4_scratch13.sem (half 1) (qt (sh fullShare (wL L)) 3)
      (DT4 m d (wL L) (cV L) (jV L) (sh fullShare (wL L))) (fun j => DT4_at m d (wL L) (cV L) (jV L) _ 3 384 rfl (by decide) _ _ j _)) $$ [Hc3 Ht3 Hy3 BT]
  · isplitr; · iexact Hwm
    isplitl [Hc3]; · iexact Hc3
    isplitl [Ht3]; · iexact Ht3
    isplitl [Hy3]; · iexact Hy3
    iexact BT
  iintro BT
  iapply (Transfers.wp_waitBatchAllO countersEmb 𝒱₀ (V d (cV L) (jV L)) none (default : HIx 3) (creditH 0 inb_S512x128_S128x128_0_0) (show 0 < 4096 by decide) (show 0 + 524288 = 4096 * 128 by norm_num)) $$ [BR0 HO]
  · isplitl [BR0]; · iexact BR0
    isplitl [HO]; · iexact HO
    iapply (Transfers.MayWaits.elim (SemLoc.dma cc4_scratch8.sem)) $$ Hmw
  iintro ⟨BR0, Sr0, HO⟩
  ihave BR0 := (DR_join m d (wL L) (cV L) (jV L) 0 0 rfl lt4_0 inb_S512x128_S128x128_0_0 inb_S4x128_S1x128_0_0 (half 0) (qt (sh fullShare (wL L)) 0)) $$ BR0
  icases BR0 with ⟨Ha0, Hx0, Hh0⟩
  iapply (Transfers.wp_waitBatchMulO countersEmb 𝒱₀ (V d (cV L) (jV L)) none (default : HIx 3) 128 (creditT 0 inb_S512_S128_0) (show 0 + 128 * 32 ≤ 32 * (384 + 128) by norm_num)) $$ [BT HO]
  · isplitl [BT]; · iexact BT
    isplitl [HO]; · iexact HO
    iapply (Transfers.MayWaits.elim (SemLoc.dma cc4_scratch13.sem)) $$ Hmw
  iintro ⟨BT, HO⟩
  iapply (Transfers.wp_waitBatchAllO countersEmb 𝒱₀ (V d (cV L) (jV L)) none (default : HIx 3) (creditH 128 inb_S512x128_S128x128_128_0) (show 0 < 4096 by decide) (show 0 + 524288 = 4096 * 128 by norm_num)) $$ [BR1 HO]
  · isplitl [BR1]; · iexact BR1
    isplitl [HO]; · iexact HO
    iapply (Transfers.MayWaits.elim (SemLoc.dma cc4_scratch9.sem)) $$ Hmw
  iintro ⟨BR1, Sr1, HO⟩
  ihave BR1 := (DR_join m d (wL L) (cV L) (jV L) 1 128 rfl lt4_1 inb_S512x128_S128x128_128_0 inb_S4x128_S1x128_1_0 (half 0) (qt (sh fullShare (wL L)) 1)) $$ BR1
  icases BR1 with ⟨Ha1, Hx1, Hh1⟩
  iapply (Transfers.wp_waitBatchMulO countersEmb 𝒱₀ (V d (cV L) (jV L)) none (default : HIx 3) 128 (creditT 128 inb_S512_S128_128) (show 0 + 128 * 32 + 128 * 32 ≤ 32 * (384 + 128) by norm_num)) $$ [BT HO]
  · isplitl [BT]; · iexact BT
    isplitl [HO]; · iexact HO
    iapply (Transfers.MayWaits.elim (SemLoc.dma cc4_scratch13.sem)) $$ Hmw
  iintro ⟨BT, HO⟩
  iapply (Transfers.wp_waitBatchAllO countersEmb 𝒱₀ (V d (cV L) (jV L)) none (default : HIx 3) (creditH 256 inb_S512x128_S128x128_256_0) (show 0 < 4096 by decide) (show 0 + 524288 = 4096 * 128 by norm_num)) $$ [BR2 HO]
  · isplitl [BR2]; · iexact BR2
    isplitl [HO]; · iexact HO
    iapply (Transfers.MayWaits.elim (SemLoc.dma cc4_scratch10.sem)) $$ Hmw
  iintro ⟨BR2, Sr2, HO⟩
  ihave BR2 := (DR_join m d (wL L) (cV L) (jV L) 2 256 rfl lt4_2 inb_S512x128_S128x128_256_0 inb_S4x128_S1x128_2_0 (half 0) (qt (sh fullShare (wL L)) 2)) $$ BR2
  icases BR2 with ⟨Ha2, Hx2, Hh2⟩
  iapply (Transfers.wp_waitBatchMulO countersEmb 𝒱₀ (V d (cV L) (jV L)) none (default : HIx 3) 128 (creditT 256 inb_S512_S128_256) (show 0 + 128 * 32 + 128 * 32 + 128 * 32 ≤ 32 * (384 + 128) by norm_num)) $$ [BT HO]
  · isplitl [BT]; · iexact BT
    isplitl [HO]; · iexact HO
    iapply (Transfers.MayWaits.elim (SemLoc.dma cc4_scratch13.sem)) $$ Hmw
  iintro ⟨BT, HO⟩
  iapply (Transfers.wp_waitBatchAllO countersEmb 𝒱₀ (V d (cV L) (jV L)) none (default : HIx 3) (creditH 384 inb_S512x128_S128x128_384_0) (show 0 < 4096 by decide) (show 0 + 524288 = 4096 * 128 by norm_num)) $$ [BR3 HO]
  · isplitl [BR3]; · iexact BR3
    isplitl [HO]; · iexact HO
    iapply (Transfers.MayWaits.elim (SemLoc.dma cc4_scratch11.sem)) $$ Hmw
  iintro ⟨BR3, Sr3, HO⟩
  ihave BR3 := (DR_join m d (wL L) (cV L) (jV L) 3 384 rfl lt4_3 inb_S512x128_S128x128_384_0 inb_S4x128_S1x128_3_0 (half 0) (qt (sh fullShare (wL L)) 3)) $$ BR3
  icases BR3 with ⟨Ha3, Hx3, Hh3⟩
  iapply (Transfers.wp_waitBatchAllO countersEmb 𝒱₀ (V d (cV L) (jV L)) none (default : HIx 3) (creditT 384 inb_S512_S128_384) (show 0 < 32 by decide) (show 0 + 128 * 32 + 128 * 32 + 128 * 32 + 4096 = 32 * 512 by norm_num)) $$ [BT HO]
  · isplitl [BT]; · iexact BT
    isplitl [HO]; · iexact HO
    iapply (Transfers.MayWaits.elim (SemLoc.dma cc4_scratch13.sem)) $$ Hmw
  iintro ⟨BT, Ss, HO⟩
  ihave BT := (DT4_split m d (wL L) (cV L) (jV L) _ inb_S512_S128_0 inb_S512_S128_128 inb_S512_S128_256 inb_S512_S128_384 inb_S4x128_S1x128_0_0 inb_S4x128_S1x128_1_0
    inb_S4x128_S1x128_2_0 inb_S4x128_S1x128_3_0) $$ BT
  icases BT with ⟨BT0, BT1, BT2, BT3⟩
  ihave BT0 := (DT_join m d (wL L) (cV L) (jV L) 0 0 rfl lt4_0 inb_S512_S128_0 inb_S4x128_S1x128_0_0 (half 1) (qt (sh fullShare (wL L)) 0)) $$ BT0
  icases BT0 with ⟨Hc0, Hy0, Ht0⟩
  ihave BT1 := (DT_join m d (wL L) (cV L) (jV L) 1 128 rfl lt4_1 inb_S512_S128_128 inb_S4x128_S1x128_1_0 (half 1) (qt (sh fullShare (wL L)) 1)) $$ BT1
  icases BT1 with ⟨Hc1, Hy1, Ht1⟩
  ihave BT2 := (DT_join m d (wL L) (cV L) (jV L) 2 256 rfl lt4_2 inb_S512_S128_256 inb_S4x128_S1x128_2_0 (half 1) (qt (sh fullShare (wL L)) 2)) $$ BT2
  icases BT2 with ⟨Hc2, Hy2, Ht2⟩
  ihave BT3 := (DT_join m d (wL L) (cV L) (jV L) 3 384 rfl lt4_3 inb_S512_S128_384 inb_S4x128_S1x128_3_0 (half 1) (qt (sh fullShare (wL L)) 3)) $$ BT3
  icases BT3 with ⟨Hc3, Hy3, Ht3⟩
  sl_step
  isplitl [Ha0 Ha1 Ha2 Ha3 Hc0 Hc1 Hc2 Hc3]
  · isplitl [Ha0 Ha1 Ha2 Ha3]
    · iexists _
      isplitr; · ipureintro; exact named0 m d (wL L) (cV L) (jV L)
      iapply (Entails.of_eq (will_join (F := F) (ℓ := r0Loc d) (sh fullShare (wL L)) (m (a0Loc d)) (fun x => some (res0 m d x)) (marks0 m d (wL L) (cV L) (jV L))))
      isplitl [Ha0]; · iexact Ha0
      isplitl [Ha1]; · iexact Ha1
      isplitl [Ha2]; · iexact Ha2
      iexact Ha3
    · iexists _
      isplitr; · ipureintro; exact named1 m d (wL L) (cV L) (jV L)
      iapply (Entails.of_eq (will_join (F := F) (ℓ := r1Loc d) (sh fullShare (wL L)) (m (a1Loc d)) (fun x => some (res1 m d x)) (marks1 m d (wL L) (cV L) (jV L))))
      isplitl [Hc0]; · iexact Hc0
      isplitl [Hc1]; · iexact Hc1
      isplitl [Hc2]; · iexact Hc2
      iexact Hc3
  isplitl [Hx0 Hx1 Hx2 Hx3 Hy0 Hy1 Hy2 Hy3 Hw0 Hw1 Hw2 Hw3 Hv0 Hv1 Hv2 Hv3 Hh0 Hh1 Hh2 Hh3 Ht0 Ht1 Ht2 Ht3 Hbufs]
  · isplitr [Hbufs]; swap; · iexact Hbufs
    isplitl [Hx0 Hx1 Hx2 Hx3 Hy0 Hy1 Hy2 Hy3]
    · iexists (idsW m d (wL L))
      iapply (Entails.of_eq (pts4 (F := F) (ℓ := xLoc d (cV L) (jV L)) (fun x => (x 0).val) (fun x => (x 0).isLt) fullShare (idsW m d (wL L))).symm)
      isplitl [Hx0 Hy0]
      · iapply (Entails.of_eq (pts_half (F := F) _ _).symm)
        isplitl [Hx0]; · iexact Hx0
        iexact Hy0
      isplitl [Hx1 Hy1]
      · iapply (Entails.of_eq (pts_half (F := F) _ _).symm)
        isplitl [Hx1]; · iexact Hx1
        iexact Hy1
      isplitl [Hx2 Hy2]
      · iapply (Entails.of_eq (pts_half (F := F) _ _).symm)
        isplitl [Hx2]; · iexact Hx2
        iexact Hy2
      · iapply (Entails.of_eq (pts_half (F := F) _ _).symm)
        isplitl [Hx3]; · iexact Hx3
        iexact Hy3
    isplitl [Hw0 Hw1 Hw2 Hw3 Hv0 Hv1 Hv2 Hv3]
    · iexists (winW m d (wL L))
      iapply (Entails.of_eq (pts4 (F := F) (ℓ := wLoc d (cV L) (jV L)) (fun x => (x 0).val) (fun x => (x 0).isLt) fullShare (winW m d (wL L))).symm)
      isplitl [Hw0 Hv0]
      · iapply (Entails.of_eq (pts_half (F := F) _ _).symm)
        isplitl [Hw0]; · iexact Hw0
        iexact Hv0
      isplitl [Hw1 Hv1]
      · iapply (Entails.of_eq (pts_half (F := F) _ _).symm)
        isplitl [Hw1]; · iexact Hw1
        iexact Hv1
      isplitl [Hw2 Hv2]
      · iapply (Entails.of_eq (pts_half (F := F) _ _).symm)
        isplitl [Hw2]; · iexact Hw2
        iexact Hv2
      · iapply (Entails.of_eq (pts_half (F := F) _ _).symm)
        isplitl [Hw3]; · iexact Hw3
        iexact Hv3
    isplitl [Hh0 Hh1 Hh2 Hh3]
    · iexists (rowW m d (wL L))
      iapply (Entails.of_eq (pts4 (F := F) (ℓ := hLoc d (cV L) (jV L)) (fun x => (x 0).val / 128) (fun x => Nat.div_lt_of_lt_mul (show (x 0).val < 128 * 4 from (x 0).isLt)) fullShare (rowW m d (wL L))).symm)
      isplitl [Hh0]; · iexact Hh0
      isplitl [Hh1]; · iexact Hh1
      isplitl [Hh2]; · iexact Hh2
      iexact Hh3
    iexists (tsW m d (wL L))
    iapply (Entails.of_eq (pts4 (F := F) (ℓ := tLoc d (cV L) (jV L)) (fun x => (x 0).val / 128) (fun x => Nat.div_lt_of_lt_mul (show (x 0).val < 128 * 4 from (x 0).isLt)) fullShare (tsW m d (wL L))).symm)
    isplitl [Ht0]; · iexact Ht0
    isplitl [Ht1]; · iexact Ht1
    isplitl [Ht2]; · iexact Ht2
    iexact Ht3
  isplitl [Sw0 Sw1 Sw2 Sw3 Sr0 Sr1 Sr2 Sr3 Ss Sg Hsems]
  · isplitr [Hsems]; swap; · iexact Hsems
    isplitl [Sw0]; · iexact Sw0
    isplitl [Sw1]; · iexact Sw1
    isplitl [Sw2]; · iexact Sw2
    isplitl [Sw3]; · iexact Sw3
    isplitl [Sr0]; · iexact Sr0
    isplitl [Sr1]; · iexact Sr1
    isplitl [Sr2]; · iexact Sr2
    isplitl [Sr3]; · iexact Sr3
    isplitl [Ss]; · iexact Ss
    iexact Sg
  iexists _; isplitr
  swap; · iexact HO
  ipureintro; intro p hp
  repeat (rcases Finset.mem_insert.mp hp with hp | hp; · exact .inr (hp ▸ rfl))
  exact .inl hp

set_option maxRecDepth 16384 in
theorem tileObl (hF : (K (F := F)).Facts) (hpre : PreOK m) : (K (F := F)).TileObl (D (F := F)) 𝒱 (P m) v₀ 2 := by
  intro d c i O W hO _ _
  simp only [show (P m).ox = fun _ _ => 0 from rfl, add_zero]
  have hci : ((K (F := F)).core 2 c).val < grid4.bound 0 ∧ ((K (F := F)).sub 2 i).val < grid4.bound 1 := ⟨c.isLt, i.isLt⟩
  change _ ⊢ wp _ _ _ (Pipeline.liftProg (defs₀ (F := F) (.scVector ((K (F := F)).core 2 c) ((K (F := F)).sub 2 i)) 4 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Scatter

end Cert.Proof.Main

end
-- ==== Proof.Launch.lean ====
/-
  @main on the TensorCore, from the launch memory to the two results, and the program's run from it: the three
  SparseCore calls and the two TensorCore stages joined.
-/
module

public import proofs.«01_k».proof.Proof.Deal
public import proofs.«01_k».proof.Proof.GatherTile
public import proofs.«01_k».proof.Proof.ArbTile
public import proofs.«01_k».proof.Proof.ScatterTile

@[expose] public section

noncomputable section

namespace Cert.Proof.Main

open Cert.KernelIdeal Cert.KernelIdeal.Gen

open Idealize.ShloMosaic
open Idealize.ShloMosaic.TcCoe
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (cellsGhost toksInit pin)

variable {F : FTy → Type} [FloatOps F]
variable (m : (ℓ : Loc nD τ sig) → Buf (Elt F) ℓ) (ρ : Dev nD → PrngReg)

local notation "𝕄" => MT nD τ sig (HIx 3) (Elt F) ℕ (UU F) ℕ
local notation:60 ℓ " ⇝{" q "} " f:max " ⇒ " g:max " @ " W:max => willBeTo wE ℓ Finset.univ q f g W

/-! ## The steps of @main -/

theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (a3Loc d ↦{fullShare} W main_arg3) ∗ (a4Loc d ↦{fullShare} W main_arg4) ∗ (a5Loc d ↦{fullShare} W main_arg5)
      ∗ (a6Loc d ↦{fullShare} W main_arg6) ∗ (a7Loc d ↦{fullShare} W main_arg7) ∗ (a8Loc d ↦{fullShare} W main_arg8)
      ∗ (b0Loc d ↦{fullShare} W main_v0) ∗ (b1Loc d ↦{fullShare} W main_v1) ∗ (b2Loc d ↦{fullShare} W main_v2)
      ∗ (b3Loc d ↦{fullShare} W main_v3) ∗ (b4Loc d ↦{fullShare} W main_v4) ∗ (b5Loc d ↦{fullShare} W main_v5)
      ∗ (b6Loc d ↦{fullShare} W main_v6) ∗ (r0Loc d ↦{fullShare} W main_v7_0) ∗ (r1Loc d ↦{fullShare} W main_v7_1)) := by
  unfold unscopedBufs
  rw [show (Finset.univ.filter fun b : Ref sig .tc => ¬ b.isScoped) = {main_arg0, main_arg1, main_arg2, main_arg3, main_arg4, main_arg5,
      main_arg6, main_arg7, main_arg8, main_v0, main_v1, main_v2, main_v3, main_v4, main_v5, main_v6, main_v7_0, main_v7_1} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- What the TensorCore owes between the second call and the third, lent out of its state. -/
theorem tcSt_lend (d : Dev nD) :
    ((K (F := F)).tcSt EH d 2 : sProp 𝕄) ⊢ iprop(owes2 (F := F) d ∗ (owes2 (F := F) d -∗ (K (F := F)).tcSt EH d 2)) := by
  unfold SparseCore.Cfg.tcSt owes2
  iintro ⟨HO, Hr⟩
  isplitl [HO]; · iexact HO
  iintro HO
  isplitl [HO]; · iexact HO
  iexact Hr

/-- A TensorCore stage, entered from @main. -/
theorem wp_stage [∀ e, Nonempty (Elt F e)] {p : Fin 2}
    (R : Pipeline.RegionSeg (pcfgs (F := F)) adm (pdats m) (none : HIx 3) defs₀ Variants.none (K (F := F)).L (K (F := F)).lev p)
    (d : Dev nD) {Q : PUnit → sProp 𝕄} :
    (iprop(boundary (SparseCore.T d) ∗ R.pre d ∗ levAts (K (F := F)).L (K (F := F)).lev
        ∗ cellsGhost (pin (pcfgs (F := F)) adm) EP p d ∗ toksInit (pin (pcfgs (F := F)) adm) EP p d
        ∗ ((boundary (SparseCore.T d) ∗ R.post d) -∗ Q ⟨⟩)) : sProp 𝕄)
      ⊢ wp frame (wpE ((K (F := F)).defs (D (F := F))) 𝒱 (SparseCore.T d) none) Set.univ
          (Prog.lift (.customCall (SparseCore.inner (Pipeline.entry p)) ())) Q := by
  have h := Pipeline.RegionSeg.wp (pcfgs (F := F)) adm (pdats m) (none : HIx 3) pin_inj EP defs₀ Variants.none (K (F := F)).L (K (F := F)).lev R d
    none (fun u hu => absurd hu (by simp)) .ret Q
  have h2 := h.trans ((K (F := F)).wp_liftProg (D (F := F)) 𝒱 (SparseCore.T d) Set.univ none
    (.op (.customCall (Pipeline.entry p) ()) .ret) Q)
  iintro ⟨Hb, Hp, Hl, Hg, Ht, Hk⟩
  iapply h2
  isplitl [Hk]
  · iintro H
    rw [wp_ret]
    imodintro
    iapply Hk; iexact H
  isplitl [Hb]; · iexact Hb
  isplitl [Hp]; · iexact Hp
  isplitl [Hl]; · iexact Hl
  isplitl [Hg]; · iexact Hg
  iexact Ht

/-! ## @main -/

/-- What is left at the end: the arguments, unchanged, and the two results. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ (a3Loc d ↦{fullShare} m (a3Loc d)) ∗ (a4Loc d ↦{half 1} m (a4Loc d)) ∗ (a5Loc d ↦{fullShare} m (a5Loc d))
    ∗ (a6Loc d ↦{fullShare} m (a6Loc d)) ∗ (a7Loc d ↦{fullShare} m (a7Loc d)) ∗ (a8Loc d ↦{fullShare} m (a8Loc d))
    ∗ (r0Loc d ↦{fullShare} (res0 m d : Buf (Elt F) (r0Loc d))) ∗ (r1Loc d ↦{fullShare} (res1 m d : Buf (Elt F) (r1Loc d))))

set_option maxRecDepth 8192 in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 3 ∗ FIN m d ∗ (K (F := F)).tcEnd d) := by
  unfold SparseCore.Cfg.tcRes SparseCore.Cfg.tcEnd G
  rw [unscopedBufs_eq, Scatter.bigSep2, Scatter.bigSep2]
  simp only [main, wp_bind, wp_pure]
  iintro ⟨#Hctx, Hst, ⟨Hb, ⟨Ha0, Ha1, Ha2, Ha3, Ha4, Ha5, Ha6, Ha7, Ha8, Hb0, Hb1, Hb2, Hb3, Hb4, Hb5, Hb6, Hr0, Hr1⟩, Hts, -⟩, ⟨Hg0, Hg1⟩, ⟨Ht0, Ht1⟩, %κw, #Hwm⟩
  ihave #Hlev := (SparseCore.Cfg.ctx_levAts κ) $$ Hctx
  -- the gather
  iapply ((K (F := F)).wp_run (D (F := F)) 𝒱 (EH := EH) (P := P m) κ d 0)
  isplitr; · iexact Hctx
  isplitl [Hst]; · iexact Hst
  isplitl [Ha0 Ha2 Hb0]
  · rw [st_eq, go0_eq]
    isplitl [Ha0]; · iexact Ha0
    isplitl [Ha2]; · iexact Ha2
    iexact Hb0
  iintro ⟨Hst, Hdn⟩
  ihave Hdn' := (Entails.of_eq ((dn_eq m 0 d).trans (td0_eq m d))) $$ Hdn
  icases Hdn' with ⟨Ha0, Ha2, Hb0⟩
  -- the arbitration
  iapply ((K (F := F)).wp_run (D (F := F)) 𝒱 (EH := EH) (P := P m) κ d 1)
  isplitr; · iexact Hctx
  isplitl [Hst]; · iexact Hst
  isplitl [Ha2 Hb1]
  · rw [st_eq, go1_eq]
    isplitl [Ha2]; · iexact Ha2
    iexact Hb1
  iintro ⟨Hst, Hdn⟩
  ihave Hdn' := (Entails.of_eq ((dn_eq m 1 d).trans (td1_eq m d))) $$ Hdn
  icases Hdn' with ⟨Ha2, %f, %hf, Hb1⟩
  -- the copy of the table
  ihave Hst2 := (Entails.of_eq (show ((K (F := F)).tcSt EH d ((1 : Fin 3).val + 1) : sProp 𝕄) = (K (F := F)).tcSt EH d 2 from rfl)) $$ Hst
  ihave Hst' := (tcSt_lend d) $$ Hst2
  icases Hst' with ⟨HO, Hst⟩
  iapply (wp_stage m (regCopy m) d)
  isplitl [Hb]; · iexact Hb
  isplitl [Ha0 Hb2 HO]
  · iapply (Entails.of_eq (show (iprop((a0Loc d ↦{fullShare} m (a0Loc d)) ∗ (b2Loc d ↦{fullShare} m (b2Loc d)) ∗ owes2 (F := F) d) : sProp 𝕄)
      = (regCopy m).pre d from rfl))
    isplitl [Ha0]; · iexact Ha0
    isplitl [Hb2]; · iexact Hb2
    iexact HO
  isplitr; · iexact Hlev
  isplitl [Hg0]; · iexact Hg0
  isplitl [Ht0]; · iexact Ht0
  iintro ⟨Hb, Hpost⟩
  ihave Hpost' := (Entails.of_eq (show ((regCopy m).post d : sProp 𝕄) = iprop((a0Loc d ↦{fullShare} m (a0Loc d))
      ∗ (b2Loc d ↦{fullShare} (m (a0Loc d) : Buf (Elt F) (b2Loc d))) ∗ owes2 (F := F) d) from rfl)) $$ Hpost
  icases Hpost' with ⟨Ha0, Hb2, HO⟩
  -- the biases as rows
  iapply (wp_host m d main_arg7 main_v3 (by decide) rfl rfl (m (a7Loc d)) (m (b3Loc d)) (bI m d : Buf (Elt F) (b3Loc d))
    (fun V => StableHlo.reshape_result_ne _ _ _ _ _ _ V (by decide))
    (fun V h => (StableHlo.reshape_result _ _ _ _ _ _ V).trans (by rw [h]; rfl)))
  isplitl [Hb]; · iexact Hb
  isplitl [Ha7]; · iexact Ha7
  isplitl [Hb3]; · iexact Hb3
  iintro ⟨Hb, Ha7, Hb3⟩
  iapply (wp_host m d main_arg8 main_v4 (by decide) rfl rfl (m (a8Loc d)) (m (b4Loc d)) (bH m d : Buf (Elt F) (b4Loc d))
    (fun V => StableHlo.reshape_result_ne _ _ _ _ _ _ V (by decide))
    (fun V h => (StableHlo.reshape_result _ _ _ _ _ _ V).trans (by rw [h]; rfl)))
  isplitl [Hb]; · iexact Hb
  isplitl [Ha8]; · iexact Ha8
  isplitl [Hb4]; · iexact Hb4
  iintro ⟨Hb, Ha8, Hb4⟩
  -- the recurrent unit
  iapply (wp_stage m (regGru m) d)
  isplitl [Hb]; · iexact Hb
  isplitl [Ha3 Hb0 Ha5 Ha6 Hb3 Hb4 Hb5 HO]
  · iapply (Entails.of_eq (show (iprop((a3Loc d ↦{fullShare} m (a3Loc d)) ∗ (b0Loc d ↦{fullShare} hG m d)
      ∗ (a5Loc d ↦{fullShare} m (a5Loc d)) ∗ (a6Loc d ↦{fullShare} m (a6Loc d))
      ∗ (b3Loc d ↦{fullShare} (bI m d : Buf (Elt F) (b3Loc d))) ∗ (b4Loc d ↦{fullShare} (bH m d : Buf (Elt F) (b4Loc d)))
      ∗ (b5Loc d ↦{fullShare} m (b5Loc d)) ∗ owes2 (F := F) d) : sProp 𝕄) = (regGru m).pre d from rfl))
    isplitl [Ha3]; · iexact Ha3
    isplitl [Hb0]; · iexact Hb0
    isplitl [Ha5]; · iexact Ha5
    isplitl [Ha6]; · iexact Ha6
    isplitl [Hb3]; · iexact Hb3
    isplitl [Hb4]; · iexact Hb4
    isplitl [Hb5]; · iexact Hb5
    iexact HO
  isplitr; · iexact Hlev
  isplitl [Hg1]; · iexact Hg1
  isplitl [Ht1]; · iexact Ht1
  iintro ⟨Hb, Hpost⟩
  ihave Hpost' := (Entails.of_eq (show ((regGru m).post d : sProp 𝕄) = iprop((a3Loc d ↦{fullShare} m (a3Loc d)) ∗ (b0Loc d ↦{fullShare} hG m d)
      ∗ (a5Loc d ↦{fullShare} m (a5Loc d)) ∗ (a6Loc d ↦{fullShare} m (a6Loc d))
      ∗ (b3Loc d ↦{fullShare} (bI m d : Buf (Elt F) (b3Loc d))) ∗ (b4Loc d ↦{fullShare} (bH m d : Buf (Elt F) (b4Loc d)))
      ∗ (b5Loc d ↦{fullShare} (hNew m d : Buf (Elt F) (b5Loc d))) ∗ owes2 (F := F) d) from rfl)) $$ Hpost
  icases Hpost' with ⟨Ha3, -, Ha5, Ha6, -, -, Hb5, HO⟩
  ihave Hst := Hst $$ HO
  -- the node numbers in rows, and the results' starting contents
  iapply (wp_host m d main_arg2 main_v6 (by decide) rfl rfl (m (a2Loc d)) (m (b6Loc d)) (ids3 m d : Buf (Elt F) (b6Loc d))
    (fun V => StableHlo.reshape_result_ne _ _ _ _ _ _ V (by decide))
    (fun V h => (StableHlo.reshape_result _ _ _ _ _ _ V).trans (by rw [h]; rfl)))
  isplitl [Hb]; · iexact Hb
  isplitl [Ha2]; · iexact Ha2
  isplitl [Hb6]; · iexact Hb6
  iintro ⟨Hb, Ha2, Hb6⟩
  iapply (wp_host m d main_v2 main_v7_0 (by decide) rfl rfl (m (a0Loc d) : Buf (Elt F) (b2Loc d)) (m (r0Loc d)) (m (a0Loc d) : Buf (Elt F) (r0Loc d))
    (fun V => StableHlo.unary_result_ne _ _ _ _ _ V (by decide))
    (fun V h => (StableHlo.unary_result _ _ _ _ _ V).trans h))
  isplitl [Hb]; · iexact Hb
  isplitl [Hb2]; · iexact Hb2
  isplitl [Hr0]; · iexact Hr0
  iintro ⟨Hb, -, Hr0⟩
  iapply (wp_host m d main_arg1 main_v7_1 (by decide) rfl rfl (m (a1Loc d)) (m (r1Loc d)) (m (a1Loc d) : Buf (Elt F) (r1Loc d))
    (fun V => StableHlo.unary_result_ne _ _ _ _ _ V (by decide))
    (fun V h => (StableHlo.unary_result _ _ _ _ _ V).trans h))
  isplitl [Hb]; · iexact Hb
  isplitl [Ha1]; · iexact Ha1
  isplitl [Hr1]; · iexact Hr1
  iintro ⟨Hb, Ha1, Hr1⟩
  -- the scatter
  imod (pointsTo_castIn (emb := wE (F := F)) (ιwm := κw) (ℓ := r0Loc d) (I := Finset.univ) (f := (m (a0Loc d) : Buf (Elt F) (r0Loc d))) (E := Set.univ)
    (fun x => some (res0 m d x)) (Set.mem_univ _)) $$ [Hr0] with Hr0
  · isplitr; · iexact Hwm
    iexact Hr0
  imod (pointsTo_castIn (emb := wE (F := F)) (ιwm := κw) (ℓ := r1Loc d) (I := Finset.univ) (f := (m (a1Loc d) : Buf (Elt F) (r1Loc d))) (E := Set.univ)
    (fun x => some (res1 m d x)) (Set.mem_univ _)) $$ [Hr1] with Hr1
  · isplitr; · iexact Hwm
    iexact Hr1
  ihave Ha4' := (Entails.of_eq (Scatter.pts_half Finset.univ (m (a4Loc d)))) $$ Ha4
  icases Ha4' with ⟨Ha4, Ha4r⟩
  iapply ((K (F := F)).wp_run (D (F := F)) 𝒱 (EH := EH) (P := P m) κ d 2)
  isplitr; · iexact Hctx
  isplitl [Hst]; · iexact Hst
  isplitl [Hb6 Ha4 Hb5 Hb1 Hr0 Hr1]
  · rw [st_eq]
    iapply (go2_intro m d f hf)
    isplitl [Hb6]; · iexact Hb6
    isplitl [Ha4]; · iexact Ha4
    isplitl [Hb5]; · iexact Hb5
    isplitl [Hb1]; · iexact Hb1
    isplitl [Hr0]; · iexact Hr0
    iexact Hr1
  iintro ⟨Hst, Hdn⟩
  ihave Hdn' := (Entails.of_eq (dn_eq m 2 d)) $$ Hdn
  imod (td2_elim m d κw) $$ [Hdn'] with ⟨Hr0, Hr1⟩
  · isplitr; · iexact Hwm
    iexact Hdn'
  imodintro
  isplitl [Hst]; · iexact Hst
  isplitr [Hb Hts]
  · isplitl [Ha0]; · iexact Ha0
    isplitl [Ha1]; · iexact Ha1
    isplitl [Ha2]; · iexact Ha2
    isplitl [Ha3]; · iexact Ha3
    isplitl [Ha4r]; · iexact Ha4r
    isplitl [Ha5]; · iexact Ha5
    isplitl [Ha6]; · iexact Ha6
    isplitl [Ha7]; · iexact Ha7
    isplitl [Ha8]; · iexact Ha8
    isplitl [Hr0]; · iexact Hr0
    iexact Hr1
  isplitl [Hb] <;> iassumption

end Cert.Proof.Main

end
-- ==== Proof.RunKernel.lean ====
/-
  The kernel's run: from a launch memory whose node numbers name rows of the table, it ends with its arguments
  unchanged, its two results at their values and every semaphore counter at zero. The frames follow.
-/
module

public import proofs.«01_k».proof.Proof.Launch
public import proofs.«01_k».proof.Proof.Gen.Kernel
public import proofs.«01_k».proof.Proof.Gen.Pre_in_range
public import Idealize.ShloMosaic.PureOps.BitExact
public import Idealize.ShloMosaic.PureOps.Ideal
public import Idealize.ShloMosaic.Lib.ReduceAll

@[expose] public section

noncomputable section

namespace Cert.Proof.Main

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ) (ρ : Dev nD → PrngReg)

local notation "𝕄" => MT nD τ sig (HIx 3) (Elt F) ℕ (UU F) ℕ

/-- What a device's memory holds at the end. -/
def Ends (d : Dev nD) (M : (ℓ : Loc nD τ sig) → Buf (Elt F) ℓ) : Prop :=
  (M (a0Loc d) = m (a0Loc d) ∧ M (a1Loc d) = m (a1Loc d) ∧ M (a2Loc d) = m (a2Loc d) ∧ M (a3Loc d) = m (a3Loc d)
    ∧ M (a4Loc d) = m (a4Loc d) ∧ M (a5Loc d) = m (a5Loc d) ∧ M (a6Loc d) = m (a6Loc d) ∧ M (a7Loc d) = m (a7Loc d)
    ∧ M (a8Loc d) = m (a8Loc d))
  ∧ M (r0Loc d) = res0 m d ∧ M (r1Loc d) = res1 m d

def fq (d : Dev nD) (s' : Phys nD τ sig (Elt F)) : Prop := Ends m d s'.mem.mem

/-- An array held whole, at any share, says what the memory holds there; it is kept. -/
theorem mem_eq {ℓ : Loc nD τ sig} (s' : Phys nD τ sig (Elt F)) (q : PosShare TreeShare) (f : Buf (Elt F) ℓ) :
    (iprop(SI s' ∗ (ℓ ↦{q} f)) : sProp 𝕄) ⊢ iprop(⌜s'.mem.mem ℓ = f⌝ ∗ SI s') := by
  iintro ⟨HSI, H⟩
  ihave H := (persistent_entails_right (SI_pointsTo_agree (st := s') (ℓ := ℓ) (I := Finset.univ) (q := q) (f := f))) $$ [HSI H]
  · isplitl [HSI] <;> iassumption
  icases H with ⟨%h, HSI, -⟩
  isplitr
  · ipureintro; exact funext fun i => h i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  iintro ⟨⟨H0, H1, H2, H3, H4, H5, H6, H7, H8, Hr0, Hr1⟩, HSI⟩
  ihave H := (mem_eq s' fullShare (m (a0Loc d))) $$ [HSI H0]; · isplitl [HSI] <;> iassumption
  icases H with ⟨%h0, HSI⟩
  ihave H := (mem_eq s' fullShare (m (a1Loc d))) $$ [HSI H1]; · isplitl [HSI] <;> iassumption
  icases H with ⟨%h1, HSI⟩
  ihave H := (mem_eq s' fullShare (m (a2Loc d))) $$ [HSI H2]; · isplitl [HSI] <;> iassumption
  icases H with ⟨%h2, HSI⟩
  ihave H := (mem_eq s' fullShare (m (a3Loc d))) $$ [HSI H3]; · isplitl [HSI] <;> iassumption
  icases H with ⟨%h3, HSI⟩
  ihave H := (mem_eq s' (half 1) (m (a4Loc d))) $$ [HSI H4]; · isplitl [HSI] <;> iassumption
  icases H with ⟨%h4, HSI⟩
  ihave H := (mem_eq s' fullShare (m (a5Loc d))) $$ [HSI H5]; · isplitl [HSI] <;> iassumption
  icases H with ⟨%h5, HSI⟩
  ihave H := (mem_eq s' fullShare (m (a6Loc d))) $$ [HSI H6]; · isplitl [HSI] <;> iassumption
  icases H with ⟨%h6, HSI⟩
  ihave H := (mem_eq s' fullShare (m (a7Loc d))) $$ [HSI H7]; · isplitl [HSI] <;> iassumption
  icases H with ⟨%h7, HSI⟩
  ihave H := (mem_eq s' fullShare (m (a8Loc d))) $$ [HSI H8]; · isplitl [HSI] <;> iassumption
  icases H with ⟨%h8, HSI⟩
  ihave H := (mem_eq (ℓ := r0Loc d) s' fullShare (res0 m d : Buf (Elt F) (r0Loc d))) $$ [HSI Hr0]; · isplitl [HSI] <;> iassumption
  icases H with ⟨%h9, HSI⟩
  ihave H := (mem_eq (ℓ := r1Loc d) s' fullShare (res1 m d : Buf (Elt F) (r1Loc d))) $$ [HSI Hr1]; · isplitl [HSI] <;> iassumption
  icases H with ⟨%h10, -⟩
  ipureintro
  exact ⟨⟨h0, h1, h2, h3, h4, h5, h6, h7, h8⟩, h9, h10⟩

/-- What the run leaves. -/
def QC : PUnit × MemSt nD τ sig (Elt F) → Prop := fun r => (∀ c : Dev nD, Ends m c r.2.mem) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq | 2 => nomatch hq)
    (fun q _ => match q with | 0 => Gather.tileObl m facts hpre | 1 => Arb.tileObl m facts hpre | 2 => Scatter.tileObl m facts hpre)
    (fun q _ => SparseCore.Cfg.VecSplit.of_plain (vecSplit m q))
    m ρ main (G (F := F)) (FIN m) (u₀ (F := F)) (sep_elim_left.trans (hu₀ m)) (hmain m ρ) (fq m) (hfin m) (QC m) (fun _ h hz => ⟨h, hz⟩)

/-! ## The precondition -/

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide

/-- A word signed non-negative and signed below 100000 is its own value, below 100000. -/
theorem word_lt (v : BitVec 32) (e : IntOp.andi (IntOp.cmpi .sge v 0#32) (IntOp.cmpi .slt v 100000#32) = 1#1) : v.toNat < 100000 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem ids_of_fn (x0 : FVec F S100000x128 .f32) (x1 : FVec F S100000 .f32) (x2 : IVec S16384 32) (x3 : FVec F S16384x256 .f32)
    (x4 : FVec F S16384 .f32) (x5 : FVec F S384x256 .f32) (x6 : FVec F S384x128 .f32) (x7 x8 : FVec F S384 .f32)
    (h : Cert.Pre_in_range.fn (F := F) x0 x1 x2 x3 x4 x5 x6 x7 x8 = fun _ => 1#1) (j : S16384.Idx) : (x2 j).toNat < 100000 := by
  have : Subsingleton (Cert.Pre_in_range.S_).Idx := ⟨fun a b => funext fun i => i.elim0⟩
  have e := Host.reduce_andi_all _ _ _ _ (fun i => i.elim0) (congrFun h fun i => i.elim0) j
  exact word_lt _ e

theorem ok_of_pre_bits (m : (ℓ : Loc nD τ sig) → Buf (Elt Bits) ℓ) (h : Cert.Pre_Kernel m) : PreOK (F := Bits) m :=
  fun d x => ids_of_fn _ _ _ _ _ _ _ _ _ (h d) x

theorem ok_of_pre (m : (ℓ : Loc nD τ sig) → Buf (Elt Ideal) ℓ) (h : Cert.Pre_KernelIdeal m) : PreOK (F := Ideal) m :=
  fun d x => ids_of_fn _ _ _ _ _ _ _ _ _ (h d) x

/-! ## The frames -/

/-- The run, what it leaves of the arguments and the counters alone. -/
theorem run_frame [∀ e, Nonempty (Elt F e)] (hpre : PreOK m) :
    θ_run (Cert.KernelIdeal.defs (F := F)) (Cert.KernelIdeal.threads (F := F)) ⟨m, fun _ => 0, ρ⟩
      (fun r => (∀ c : Dev nD, r.2.mem (a0Loc c) = m (a0Loc c) ∧ r.2.mem (a1Loc c) = m (a1Loc c) ∧ r.2.mem (a2Loc c) = m (a2Loc c)
        ∧ r.2.mem (a3Loc c) = m (a3Loc c) ∧ r.2.mem (a4Loc c) = m (a4Loc c) ∧ r.2.mem (a5Loc c) = m (a5Loc c)
        ∧ r.2.mem (a6Loc c) = m (a6Loc c) ∧ r.2.mem (a7Loc c) = m (a7Loc c) ∧ r.2.mem (a8Loc c) = m (a8Loc c)) ∧ r.2.sem = fun _ => 0) :=
  (θ_run Cert.KernelIdeal.defs _ _).mono (fun _ h => ⟨fun c => (h.1 c).1, h.2⟩) (run_main m ρ hpre)

theorem frame_ideal : Cert.quiescent_KernelIdeal := fun m ρ hpre => run_frame (F := Ideal) m ρ (ok_of_pre m hpre)

end Cert.Proof.Main

end
-- ==== Proof.FrameKernel.lean ====
/- The frame of the program as printed, from the run of the idealized one. -/
module

public import proofs.«01_k».proof.Proof.RunKernel

@[expose] public section

noncomputable section
namespace Cert.Proof.Main
open Idealize.ShloMosaic
set_option maxRecDepth 65536
set_option maxHeartbeats 4000000
/-- The two programs' kernel bodies are the same text: processor by processor and label by label. -/
theorem bodies_eq : Cert.Kernel.defs₀ (F := Bits) = Cert.KernelIdeal.defs₀ (F := Bits) := by
  funext p l a
  match p, l, a with
  | .scVector c s, ⟨0, _⟩, a => rfl
  | .scVector c s, ⟨1, _⟩, a => rfl
  | .scVector c s, ⟨2, _⟩, a => rfl
  | .scVector c s, ⟨3, _⟩, a => rfl
  | .scVector c s, ⟨4, _⟩, a => rfl
  | .tc, ⟨0, _⟩, a => rfl
  | .tc, ⟨1, _⟩, a => rfl
  | .tc, ⟨2, _⟩, (t, s) => rfl
  | .tc, ⟨3, _⟩, (t, s) => rfl
  | .tc, ⟨4, _⟩, a => rfl
  | .scScalar c, ⟨0, _⟩, a => rfl
  | .scScalar c, ⟨1, _⟩, a => rfl
  | .scScalar c, ⟨2, _⟩, a => rfl
  | .scScalar c, ⟨3, _⟩, a => rfl
  | .scScalar c, ⟨4, _⟩, a => rfl
theorem defs_eq : Cert.Kernel.defs (F := Bits) = Cert.KernelIdeal.defs (F := Bits) :=
  congrArg (fun D => (Cert.KernelIdeal.sc (F := Bits)).defs (Pipeline.defs Cert.KernelIdeal.pcfgs D)) bodies_eq
/-- The program as printed, its frame taken from the idealized program's run. -/
theorem frame_kernel : Cert.quiescent_Kernel := fun m ρ hpre => by
  have h := run_frame (F := Bits) m ρ (ok_of_pre_bits m hpre)
  rw [← defs_eq] at h
  exact h
end Cert.Proof.Main
end
-- ==== Proof.RefValue.lean ====
/-
  The reference's two results read at an index: the wrap of the node numbers, the rows it takes, the GRU cell, and
  its two scatters, whose fold leaves at an element the last update that lands there.
-/
module

public import proofs.«01_k».proof.Defs
public import proofs.«01_k».proof.Proof.Gen.ReferenceIdeal
public import proofs.«01_k».proof.Proof.Gen.ReferenceIdeal.Run
public import Idealize.ShloMosaic.Lib.Pointwise
public import Idealize.ShloMosaic.Lib.Routing.OpsSet
public import Idealize.ShloMosaic.Lib.ReduceAll

@[expose] public section

noncomputable section

namespace Cert.Proof.Ref

open Cert.ReferenceIdeal Cert.ReferenceIdeal.Gen

open Idealize.ShloMosaic

/-! ## The cell -/

/-- One entry of the GRU's new state, from a message row, a state row, the two weight matrices and the two biases. -/
def cell (x : Fin 256 → EReal) (h : Fin 128 → EReal) (wi : S384x256.Idx → EReal) (wh : S384x128.Idx → EReal)
    (bi bh : S384.Idx → EReal) (y : Fin 128) : EReal :=
  let gi : Fin 384 → EReal := fun q => ∑ k, x k * wi (ix2 q k) + bi (ix1 q)
  let gh : Fin 384 → EReal := fun q => ∑ k, h k * wh (ix2 q k) + bh (ix1 q)
  let q0 : Fin 384 := ⟨y.val, by omega⟩
  let q1 : Fin 384 := ⟨128 + y.val, by omega⟩
  let q2 : Fin 384 := ⟨256 + y.val, by omega⟩
  (1 - Ideal.logistic (gi q1 + gh q1)) * Ideal.tanh (gi q2 + Ideal.logistic (gi q0 + gh q0) * gh q2)
    + Ideal.logistic (gi q1 + gh q1) * h y

/-! ## The fold of a scatter that sets -/

/-- A left fold that takes a hit's value ends at the last hit's. -/
theorem foldl_last {α : Type} : ∀ (N : ℕ) (hit : Fin N → Prop) [DecidablePred hit] (val : Fin N → α) (a : α) (n : Fin N),
    hit n → (∀ k, hit k → k ≤ n) → (List.finRange N).foldl (fun b k => if hit k then val k else b) a = val n
  | 0, _, _, _, _, n, _, _ => n.elim0
  | N + 1, hit, _, val, a, n, hn, hlast => by
    rw [List.finRange_succ_last, List.foldl_append, List.foldl_map]
    show (if hit (Fin.last N) then val (Fin.last N) else _) = _
    by_cases e : hit (Fin.last N)
    · rw [if_pos e]
      exact congrArg val (le_antisymm (hlast _ e) (Fin.le_last n))
    · rw [if_neg e]
      have hlt : n.val < N := by
        rcases Fin.eq_castSucc_or_eq_last n with ⟨k, rfl⟩ | rfl
        · exact k.isLt
        · exact absurd hn e
      exact foldl_last N (fun k => hit k.castSucc) (fun k => val k.castSucc) a ⟨n.val, hlt⟩ hn
        (fun k hk => Fin.le_def.2 (Fin.le_def.1 (hlast _ hk)))

/-- A scatter that sets, read at an element where update `k` lands and no update after it does. -/
theorem scatter_last {α : Type} {s si u : Shape} {w : ℕ} (d : ScatterDims s si u) (x0 : s.Idx → α) (idx : IVec si w)
    (upd : u.Idx → α) (i : s.Idx) (k : u.Idx) (hk : d.resultIdx? k idx = some i)
    (hlast : ∀ k', d.resultIdx? k' idx = some i → u.rowMajor k' ≤ u.rowMajor k) :
    Host.scatter d (fun _ b => b) x0 idx upd i = upd k := by
  rw [Routing.scatter_at]
  refine (foldl_last _ (fun n => d.resultIdx? (u.rowMajor.symm n) idx = some i) (fun n => upd (u.rowMajor.symm n)) _
    (u.rowMajor k) (by rw [Equiv.symm_apply_apply]; exact hk) (fun n hn => ?_)).trans (by rw [Equiv.symm_apply_apply])
  have := hlast _ hn
  rwa [Equiv.apply_symm_apply] at this

/-! ## Where the updates land -/

/-- Update `(k, y)` of the rows lands at `(r, c)` exactly when its index word is `r` and `y` is `c`. -/
theorem lands2 (idx : IVec S16384x1 32) (k : Fin 16384) (y : Fin 128) (r : Fin 100000) (c : Fin 128) :
    scatter_S100000x128_S16384x1_S16384x128_1_0_0_1.resultIdx? (ix2 k y) idx = some (ix2 r c)
      ↔ (idx (ix2 k 0)).toInt = (r.val : Int) ∧ y = c := by
  set d := scatter_S100000x128_S16384x1_S16384x128_1_0_0_1 with hd
  have hs0 : d.start (ix2 k y) idx 0 = (idx (ix2 k 0)).toInt := by
    unfold ScatterDims.start
    rw [dif_pos (show (0 : Fin 2) ∈ d.scatterDimsToOperandDims from List.mem_singleton_self (0 : Fin 2))]
    refine congrArg (fun t => (idx t).toInt) (funext fun b => ?_)
    match b with
    | ⟨0, _⟩ => rfl
    | ⟨1, _⟩ => rfl
  have hs1 : d.start (ix2 k y) idx 1 = 0 := by
    unfold ScatterDims.start
    rw [dif_neg (show ¬ (1 : Fin 2) ∈ d.scatterDimsToOperandDims from (by decide : ¬ (1 : Fin 2) ∈ [(0 : Fin 2)]))]
  have hw0 : d.window (ix2 k y) 0 = 0 := rfl
  have hw1 : d.window (ix2 k y) 1 = y.val := rfl
  unfold ScatterDims.resultIdx?
  constructor
  · intro h
    split at h
    · rename_i hb
      have e := Option.some.inj h
      have e0 := congrArg Fin.val (congrFun e 0)
      have e1 := congrArg Fin.val (congrFun e 1)
      have b0 := hb 0
      simp only [hs0, hs1, hw0, hw1] at e0 e1 b0
      change _ = r.val at e0
      change _ = c.val at e1
      exact ⟨by omega, Fin.ext (by omega)⟩
    · cases h
  · rintro ⟨h0, rfl⟩
    have hb : ∀ a, 0 ≤ d.start (ix2 k y) idx a + d.window (ix2 k y) a ∧ d.start (ix2 k y) idx a + d.window (ix2 k y) a < S100000x128.size a := by
      intro a
      match a with
      | ⟨0, _⟩ =>
        show 0 ≤ d.start (ix2 k y) idx 0 + d.window (ix2 k y) 0 ∧ d.start (ix2 k y) idx 0 + d.window (ix2 k y) 0 < (100000 : ℕ)
        rw [hs0, hw0]; omega
      | ⟨1, _⟩ =>
        show 0 ≤ d.start (ix2 k y) idx 1 + d.window (ix2 k y) 1 ∧ d.start (ix2 k y) idx 1 + d.window (ix2 k y) 1 < (128 : ℕ)
        rw [hs1, hw1]; omega
    rw [dif_pos hb]
    refine congrArg some (funext fun a => Fin.ext ?_)
    match a with
    | ⟨0, _⟩ =>
      show (d.start (ix2 k y) idx 0 + d.window (ix2 k y) 0).toNat = r.val
      rw [hs0, hw0]; omega
    | ⟨1, _⟩ =>
      show (d.start (ix2 k y) idx 1 + d.window (ix2 k y) 1).toNat = y.val
      rw [hs1, hw1]; omega

/-- Update `k` of the time stamps lands at `r` exactly when its index word is `r`. -/
theorem lands1 (idx : IVec S16384x1 32) (k : Fin 16384) (r : Fin 100000) :
    scatter_S100000_S16384x1_S16384_n_0_0_1.resultIdx? (ix1 k) idx = some (ix1 r) ↔ (idx (ix2 k 0)).toInt = (r.val : Int) := by
  set d := scatter_S100000_S16384x1_S16384_n_0_0_1 with hd
  have hs0 : d.start (ix1 k) idx 0 = (idx (ix2 k 0)).toInt := by
    unfold ScatterDims.start
    rw [dif_pos (show (0 : Fin 1) ∈ d.scatterDimsToOperandDims from List.mem_singleton_self (0 : Fin 1))]
    refine congrArg (fun t => (idx t).toInt) (funext fun b => ?_)
    match b with
    | ⟨0, _⟩ => rfl
    | ⟨1, _⟩ => rfl
  have hw0 : d.window (ix1 k) 0 = 0 := rfl
  unfold ScatterDims.resultIdx?
  constructor
  · intro h
    split at h
    · rename_i hb
      have e0 := congrArg Fin.val (congrFun (Option.some.inj h) 0)
      have b0 := hb 0
      simp only [hs0, hw0] at e0 b0
      change _ = r.val at e0
      omega
    · cases h
  · intro h0
    have hb : ∀ a, 0 ≤ d.start (ix1 k) idx a + d.window (ix1 k) a ∧ d.start (ix1 k) idx a + d.window (ix1 k) a < S100000.size a := by
      intro a
      match a with
      | ⟨0, _⟩ =>
        show 0 ≤ d.start (ix1 k) idx 0 + d.window (ix1 k) 0 ∧ d.start (ix1 k) idx 0 + d.window (ix1 k) 0 < (100000 : ℕ)
        rw [hs0, hw0]; omega
    rw [dif_pos hb]
    refine congrArg some (funext fun a => Fin.ext ?_)
    match a with
    | ⟨0, _⟩ =>
      show (d.start (ix1 k) idx 0 + d.window (ix1 k) 0).toNat = r.val
      rw [hs0, hw0]; omega

/-! ## The index words and the taken rows -/

/-- The index column: each node number, plus the table's height where it is negative. -/
def idxCol (a2 : IVec S16384 32) : IVec S16384x1 32 :=
  broadcastInDim S16384x1 ![0] bcast_S16384_S16384x1_0
    (select (cmpi .slt a2 (broadcastInDim S16384 ![] bcast_S_S16384 (constantI S_ 32 0#32)))
      (addi a2 (broadcastInDim S16384 ![] bcast_S_S16384 (constantI S_ 32 100000#32))) a2)

theorem idxCol_apply (a2 : IVec S16384 32) (h : ∀ x, (a2 x).toNat < 100000) (j : Fin 16384) : idxCol a2 (ix2 j 0) = a2 (ix1 j) := by
  have e : idxCol a2 (ix2 j 0) = Scalar.select (IntOp.cmpi .slt (a2 (ix1 j)) 0#32) (IntOp.addi (a2 (ix1 j)) 100000#32) (a2 (ix1 j)) := by
    pointwise [idxCol]
  rw [e, Routing.wrap_of_lt]
  have := h (ix1 j)
  omega

/-- The mask that marks the index words inside the table. -/
def inside (a2 : IVec S16384 32) : IVec S16384 1 :=
  Host.reduce IntOp.andi
    (andi (cmpi .sge (idxCol a2) (broadcastInDim S16384x1 ![] bcast_S_S16384x1 (constantI S_ 32 0#32)))
      (cmpi .sle (idxCol a2) (broadcastInDim S16384x1 ![0, 1] bcast_S1x1_S16384x1_0_1 (broadcastInDim S1x1 ![1] bcast_S1_S1x1_1 (constantI S1 32 99999#32)))))
    (constantI S_ 1 1#1) reducesTo_S16384x1_S16384_d1 h_S_

/-- The taken rows. -/
def taken (a0 : FVec Ideal S100000x128 .f32) (a2 : IVec S16384 32) : FVec Ideal S16384x128 .f32 :=
  select (broadcastInDim S16384x128 ![0] bcast_S16384_S16384x128_0 (inside a2))
    (Host.gather gather_S100000x128_S16384x1_S16384x128_1_0_n_n_0_1_1128 a0 (idxCol a2))
    (broadcastInDim S16384x128 ![] bcast_S_S16384x128 (constant S_ .f32 0x7FC00000#32))

theorem word_inside (v : BitVec 32) (h : v.toNat < 100000) : IntOp.andi (IntOp.cmpi .sge v 0#32) (IntOp.cmpi .sle v 99999#32) = 1#1 := by
  have e1 : IntOp.cmpi .sge v 0#32 = 1#1 := by
    simp only [IntOp.cmpi, BitVec.sle_eq_decide, BitVec.toInt_eq_toNat_cond, BitVec.toNat_ofNat]
    rw [decide_eq_true (by simp; omega)]; rfl
  have e2 : IntOp.cmpi .sle v 99999#32 = 1#1 := by
    simp only [IntOp.cmpi, BitVec.sle_eq_decide, BitVec.toInt_eq_toNat_cond, BitVec.toNat_ofNat]
    rw [decide_eq_true (by simp; omega)]; rfl
  rw [e1, e2]; rfl

theorem inside_apply (a2 : IVec S16384 32) (h : ∀ x, (a2 x).toNat < 100000) (j : Fin 16384) : inside a2 (ix1 j) = 1#1 := by
  unfold inside
  pointwise
  rw [Finset.univ_unique, Finset.fold_singleton, show (default : Fin 1) = 0 from rfl, idxCol_apply a2 h, word_inside _ (h _)]
  rfl

theorem taken_apply (a0 : FVec Ideal S100000x128 .f32) (a2 : IVec S16384 32) (h : ∀ x, (a2 x).toNat < 100000) (j : Fin 16384) (y : Fin 128) :
    taken a0 a2 (ix2 j y) = a0 (ix2 ⟨(a2 (ix1 j)).toNat, h _⟩ y) := by
  have e : taken a0 a2 (ix2 j y) = Scalar.select (inside a2 (ix1 j))
      (Host.gather gather_S100000x128_S16384x1_S16384x128_1_0_n_n_0_1_1128 a0 (idxCol a2) (ix2 j y)) (Ideal.ofBits .f32 0x7FC00000#32) := by
    pointwise [taken]
  rw [e, inside_apply a2 h]
  refine (show _ = _ from rfl : Scalar.select 1#1 _ _ = Host.gather gather_S100000x128_S16384x1_S16384x128_1_0_n_n_0_1_1128 a0 (idxCol a2) (ix2 j y)).trans ?_
  refine Routing.gather_row gather_S100000x128_S16384x1_S16384x128_1_0_n_n_0_1_1128 rfl rfl rfl rfl rfl a0 (idxCol a2) j y
    ⟨(a2 (ix1 j)).toNat, h _⟩ ?_ (by decide)
  refine (idxCol_apply a2 h j).trans ?_
  exact BitVec.eq_of_toNat_eq (by rw [BitVec.toNat_ofNat]; have := h (ix1 j); show _ = (a2 (ix1 j)).toNat % 2 ^ 32; omega)

/-! ## The GRU -/

/-- The reference's new state rows. -/
def gru (a3 : FVec Ideal S16384x256 .f32) (h : FVec Ideal S16384x128 .f32) (a5 : FVec Ideal S384x256 .f32) (a6 : FVec Ideal S384x128 .f32)
    (a7 a8 : FVec Ideal S384 .f32) : FVec Ideal S16384x128 .f32 :=
  let gi := addf (Host.dotGeneral dot_S16384x256_S256x384_S16384x384_1_0_0_1_n_n none a3 (transpose S256x384 [1, 0] a5 transposes_S384x256_S256x384_1_0))
    (broadcastInDim S16384x384 ![0, 1] bcast_S1x384_S16384x384_0_1 (broadcastInDim S1x384 ![1] bcast_S384_S1x384_1 a7))
  let gh := addf (Host.dotGeneral dot_S16384x128_S128x384_S16384x384_1_0_0_1_n_n none h (transpose S128x384 [1, 0] a6 transposes_S384x128_S128x384_1_0))
    (broadcastInDim S16384x384 ![0, 1] bcast_S1x384_S16384x384_0_1 (broadcastInDim S1x384 ![1] bcast_S384_S1x384_1 a8))
  let one : FVec Ideal S16384x128 .f32 := broadcastInDim S16384x128 ![] bcast_S_S16384x128 (constant S_ .f32 0x3F800000#32)
  let z := Host.divf one (addf one (Host.exp (Host.negf (addf (extractStridedSlice S16384x128 ![0, 128] gi slices_S16384x384_S16384x128_0_128)
    (extractStridedSlice S16384x128 ![0, 128] gh slices_S16384x384_S16384x128_0_128)))))
  let r := Host.divf one (addf one (Host.exp (Host.negf (addf (extractStridedSlice S16384x128 ![0, 0] gi slices_S16384x384_S16384x128_0_0)
    (extractStridedSlice S16384x128 ![0, 0] gh slices_S16384x384_S16384x128_0_0)))))
  addf (mulf (subf one z) (Host.tanh (addf (extractStridedSlice S16384x128 ![0, 256] gi slices_S16384x384_S16384x128_0_256)
    (mulf r (extractStridedSlice S16384x128 ![0, 256] gh slices_S16384x384_S16384x128_0_256))))) (mulf z h)

theorem gru_apply (a3 : FVec Ideal S16384x256 .f32) (h : FVec Ideal S16384x128 .f32) (a5 : FVec Ideal S384x256 .f32) (a6 : FVec Ideal S384x128 .f32)
    (a7 a8 : FVec Ideal S384 .f32) (j : Fin 16384) (y : Fin 128) :
    gru a3 h a5 a6 a7 a8 (ix2 j y) = cell (fun k => a3 (ix2 j k)) (fun k => h (ix2 j k)) a5 a6 a7 a8 y := by
  pointwise [gru]
  rfl

/-! ## The results -/

set_option maxRecDepth 8192 in
theorem out0_eq (m : (ℓ : Loc nD τ sig) → Buf (Elt Ideal) ℓ) (c : Dev nD) :
    Cert.ReferenceIdeal.Value.res_out0 m c
      = Host.scatter scatter_S100000x128_S16384x1_S16384x128_1_0_0_1 (fun _ b => b) (m ((c.tc : Thread nD τ).loc main_arg0))
          (idxCol (m ((c.tc : Thread nD τ).loc main_arg2)))
          (gru (m ((c.tc : Thread nD τ).loc main_arg3)) (taken (m ((c.tc : Thread nD τ).loc main_arg0)) (m ((c.tc : Thread nD τ).loc main_arg2)))
            (m ((c.tc : Thread nD τ).loc main_arg5)) (m ((c.tc : Thread nD τ).loc main_arg6)) (m ((c.tc : Thread nD τ).loc main_arg7))
            (m ((c.tc : Thread nD τ).loc main_arg8))) := rfl

end Cert.Proof.Ref

end
-- ==== Proof.ResultEq.lean ====
/-
  The reference's results are the kernel's: row by row the GRU cell of the same message, state and weights, set at
  the same rows, the last update of a row the one that stays.
-/
module

public import proofs.«01_k».proof.Proof.RunKernel
public import proofs.«01_k».proof.Proof.RefValue

@[expose] public section

noncomputable section

namespace Cert.Proof.Main

open Cert.KernelIdeal Cert.KernelIdeal.Gen

open Idealize.ShloMosaic

variable (m : (ℓ : Loc nD τ sig) → Buf (Elt Ideal) ℓ)

/-- One block of the kernel's GRU, read at an entry. -/
theorem pay_apply (v0 : Vec Ideal S2048x256 .f32) (v1 : Vec Ideal S2048x128 .f32) (v3 : Vec Ideal S384x256 .f32)
    (v5 : Vec Ideal S384 .f32) (v9 : Vec Ideal S384x128 .f32) (v11 : Vec Ideal S384 .f32) (r : Fin 2048) (y : Fin 128) :
    k3_pay1 (F := Ideal) v0 v1 v3 (shapeCast S1x384 v5 shapeCasts_S384_S1x384) v9 (shapeCast S1x384 v11 shapeCasts_S384_S1x384) (ix2 r y)
      = Ref.cell (fun k => v0 (ix2 r k)) (fun k => v1 (ix2 r k)) v3 v9 v5 v11 y := by
  pointwise [k3_pay1]
  rfl

/-- The new row of position `j`. -/
theorem hNew_apply (d : Dev nD) (j : Fin 16384) (y : Fin 128) :
    hNew m d (ix2 j y) = Ref.cell (fun k => m (a3Loc d) (ix2 j k)) (fun k => m (a0Loc d) (ix2 (node m d j) k))
      (m (a5Loc d)) (m (a6Loc d)) (m (a7Loc d)) (m (a8Loc d)) y := by
  refine (pay_apply _ _ _ _ _ _ _ _).trans ?_
  have e : ∀ h, (⟨2048 * (j.val / 2048) + j.val % 2048, h⟩ : Fin 16384) = j := fun _ => Fin.ext (Nat.div_add_mod _ _)
  have e1 : (fun k : Fin 256 => (m (a3Loc d) (ix2 (⟨2048 * (j.val / 2048) + j.val % 2048, by omega⟩ : Fin 16384) k) : EReal))
      = fun k => m (a3Loc d) (ix2 j k) := by rw [e]
  have e2 : (fun k : Fin 128 => (m (a0Loc d) (ix2 (node m d (⟨2048 * (j.val / 2048) + j.val % 2048, by omega⟩ : Fin 16384)) k) : EReal))
      = fun k => m (a0Loc d) (ix2 (node m d j) k) := by rw [e]
  exact congrArg₂ (fun a b => Ref.cell a b (m (a5Loc d)) (m (a6Loc d)) (m (a7Loc d)) (m (a8Loc d)) y) e1 e2

/-- The reference's new row of position `j`. -/
theorem gru_eq (hpre : PreOK m) (d : Dev nD) (j : Fin 16384) (y : Fin 128) :
    Ref.gru (m (a3Loc d)) (Ref.taken (m (a0Loc d)) (m (a2Loc d))) (m (a5Loc d)) (m (a6Loc d)) (m (a7Loc d)) (m (a8Loc d)) (ix2 j y)
      = hNew m d (ix2 j y) := by
  rw [hNew_apply, Ref.gru_apply]
  refine congrArg (fun b => Ref.cell _ b _ _ _ _ y) (funext fun k => ?_)
  rw [Ref.taken_apply _ _ (hpre d)]
  exact congrArg (fun t => m (a0Loc d) (ix2 t k)) (Fin.ext (node_val m hpre d j))

/-- Position `j`'s index word, read as an integer, is the node it names. -/
theorem word_node (hpre : PreOK m) (d : Dev nD) (j : Fin 16384) :
    (Ref.idxCol (m (a2Loc d)) (ix2 j 0)).toInt = ((node m d j).val : Int) := by
  rw [Ref.idxCol_apply _ (hpre d), BitVec.toInt_eq_toNat_of_lt (by have := hpre d (ix1 j); omega), node_val m hpre d j]

theorem out0_res0 (hpre : PreOK m) (d : Dev nD) :
    Host.scatter Cert.ReferenceIdeal.scatter_S100000x128_S16384x1_S16384x128_1_0_0_1 (fun _ b => b) (m (a0Loc d)) (Ref.idxCol (m (a2Loc d)))
        (Ref.gru (m (a3Loc d)) (Ref.taken (m (a0Loc d)) (m (a2Loc d))) (m (a5Loc d)) (m (a6Loc d)) (m (a7Loc d)) (m (a8Loc d)))
      = res0 m d := by
  funext x
  obtain ⟨r, c, rfl⟩ : ∃ (r : Fin 100000) (c : Fin 128), x = ix2 r c := ⟨x 0, x 1, (ix2_eta x).symm⟩
  by_cases hn : ∃ j : Fin 16384, node m d j = r
  · obtain ⟨j, rfl⟩ := hn
    rw [res0_named, ← gru_eq m hpre d]
    refine Ref.scatter_last _ _ _ _ _ _ ((Ref.lands2 _ _ _ _ _).2 ⟨?_, rfl⟩) (fun k' hk' => ?_)
    · rw [word_node m hpre, node_lastPos]
    · obtain ⟨a, b, rfl⟩ : ∃ (a : Fin 16384) (b : Fin 128), k' = ix2 a b := ⟨k' 0, k' 1, (ix2_eta k').symm⟩
      obtain ⟨h1, rfl⟩ := (Ref.lands2 _ _ _ _ _).1 hk'
      rw [word_node m hpre] at h1
      have hle : a ≤ lastPos m d j := le_lastPos m d (Fin.ext (by omega))
      rw [Fin.le_def, Shape.rowMajor_val_two, Shape.rowMajor_val_two]
      have := Fin.le_def.1 hle
      show a.val * 128 + b.val ≤ (lastPos m d j).val * 128 + b.val
      omega
  · have e : res0 m d (ix2 r c) = m (a0Loc d) (ix2 r c) := dif_neg hn
    rw [e]
    refine Routing.scatter_set_miss _ _ _ _ _ (fun k' hk' => hn ?_)
    obtain ⟨a, b, rfl⟩ : ∃ (a : Fin 16384) (b : Fin 128), k' = ix2 a b := ⟨k' 0, k' 1, (ix2_eta k').symm⟩
    obtain ⟨h1, -⟩ := (Ref.lands2 _ _ _ _ _).1 hk'
    rw [word_node m hpre] at h1
    exact ⟨a, Fin.ext (by omega)⟩

theorem out1_res1 (hpre : PreOK m) (d : Dev nD) :
    Host.scatter Cert.ReferenceIdeal.scatter_S100000_S16384x1_S16384_n_0_0_1 (fun _ b => b) (m (a1Loc d)) (Ref.idxCol (m (a2Loc d))) (m (a4Loc d))
      = res1 m d := by
  funext x
  obtain ⟨r, rfl⟩ : ∃ r : Fin 100000, x = ix1 r := ⟨x 0, (ix1_eta x).symm⟩
  by_cases hn : ∃ j : Fin 16384, node m d j = r
  · obtain ⟨j, rfl⟩ := hn
    rw [res1_named]
    refine Ref.scatter_last _ _ _ _ _ _ ((Ref.lands1 _ _ _).2 ?_) (fun k' hk' => ?_)
    · rw [word_node m hpre, node_lastPos]
    · obtain ⟨a, rfl⟩ : ∃ a : Fin 16384, k' = ix1 a := ⟨k' 0, (ix1_eta k').symm⟩
      have h1 := (Ref.lands1 _ _ _).1 hk'
      rw [word_node m hpre] at h1
      have hle : a ≤ lastPos m d j := le_lastPos m d (Fin.ext (by omega))
      rw [Fin.le_def, Shape.rowMajor_val_one, Shape.rowMajor_val_one]
      exact Fin.le_def.1 hle
  · have e : res1 m d (ix1 r) = m (a1Loc d) (ix1 r) := dif_neg hn
    rw [e]
    refine Routing.scatter_set_miss _ _ _ _ _ (fun k' hk' => hn ?_)
    obtain ⟨a, rfl⟩ : ∃ a : Fin 16384, k' = ix1 a := ⟨k' 0, (ix1_eta k').symm⟩
    have h1 := (Ref.lands1 _ _ _).1 hk'
    rw [word_node m hpre] at h1
    exact ⟨a, Fin.ext (by omega)⟩

end Cert.Proof.Main

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.FrameKernel
public import proofs.«01_k».proof.Proof.ResultEq
public import Idealize.ShloMosaic.Adequacy
public import Idealize.ShloMosaic.Init

@[expose] public section

noncomputable section

namespace Cert.Proof

open Idealize.ShloMosaic Idealize.SL.Sem Cert.Kernel

/-- The reference's run, its results at the kernel's values where the arguments are the kernel's. -/
theorem reference_results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : Main.PreOK m)
    (c : Dev Cert.ReferenceIdeal.nD)
    (h0 : m' ((c.tc : Thread Cert.ReferenceIdeal.nD Cert.ReferenceIdeal.τ).loc Cert.ReferenceIdeal.main_arg0) = m (Main.a0Loc c))
    (h1 : m' ((c.tc : Thread Cert.ReferenceIdeal.nD Cert.ReferenceIdeal.τ).loc Cert.ReferenceIdeal.main_arg1) = m (Main.a1Loc c))
    (h2 : m' ((c.tc : Thread Cert.ReferenceIdeal.nD Cert.ReferenceIdeal.τ).loc Cert.ReferenceIdeal.main_arg2) = m (Main.a2Loc c))
    (h3 : m' ((c.tc : Thread Cert.ReferenceIdeal.nD Cert.ReferenceIdeal.τ).loc Cert.ReferenceIdeal.main_arg3) = m (Main.a3Loc c))
    (h4 : m' ((c.tc : Thread Cert.ReferenceIdeal.nD Cert.ReferenceIdeal.τ).loc Cert.ReferenceIdeal.main_arg4) = m (Main.a4Loc c))
    (h5 : m' ((c.tc : Thread Cert.ReferenceIdeal.nD Cert.ReferenceIdeal.τ).loc Cert.ReferenceIdeal.main_arg5) = m (Main.a5Loc c))
    (h6 : m' ((c.tc : Thread Cert.ReferenceIdeal.nD Cert.ReferenceIdeal.τ).loc Cert.ReferenceIdeal.main_arg6) = m (Main.a6Loc c))
    (h7 : m' ((c.tc : Thread Cert.ReferenceIdeal.nD Cert.ReferenceIdeal.τ).loc Cert.ReferenceIdeal.main_arg7) = m (Main.a7Loc c))
    (h8 : m' ((c.tc : Thread Cert.ReferenceIdeal.nD Cert.ReferenceIdeal.τ).loc Cert.ReferenceIdeal.main_arg8) = m (Main.a8Loc c)) :
    Cert.ReferenceIdeal.Value.res_out0 m' c = Main.res0 m c
      ∧ Host.scatter Cert.ReferenceIdeal.scatter_S100000_S16384x1_S16384_n_0_0_1 (fun _ b => b)
          (m' ((c.tc : Thread Cert.ReferenceIdeal.nD Cert.ReferenceIdeal.τ).loc Cert.ReferenceIdeal.main_arg1))
          (Ref.idxCol (m' ((c.tc : Thread Cert.ReferenceIdeal.nD Cert.ReferenceIdeal.τ).loc Cert.ReferenceIdeal.main_arg2)))
          (m' ((c.tc : Thread Cert.ReferenceIdeal.nD Cert.ReferenceIdeal.τ).loc Cert.ReferenceIdeal.main_arg4)) = Main.res1 m c := by
  constructor
  · rw [Ref.out0_eq, h0, h2, h3, h5, h6, h7, h8]
    exact Main.out0_res0 m hpre c
  · rw [h1, h2, h4]
    exact Main.out1_res1 m hpre c

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_reference_in_range : Cert.quiescent_ReferenceIdeal_pre_in_range := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem algebraic : Cert.algebraic_KernelIdeal_ReferenceIdeal := fun m g m' g' hpre hag => by
  have ok := Main.ok_of_pre m hpre
  refine ⟨Main.res0 m, Main.res1 m, ?_, ?_⟩
  · exact (θ_run Cert.KernelIdeal.defs _ _).mono (fun r h c => ⟨(h.1 c).2.1, (h.1 c).2.2, (h.1 c).1⟩) (Main.run_main (F := Ideal) m g ok)
  · refine (θ_run Cert.ReferenceIdeal.defs _ _).mono (fun r h c => ?_) (Cert.ReferenceIdeal.Value.run (F := Ideal) m' g')
    obtain ⟨h0, h1, h2, h3, h4, h5, h6, h7, h8⟩ := hag c
    have hr := reference_results m m' ok c h0 h1 h2 h3 h4 h5 h6 h7 h8
    exact ⟨(h c).1.trans hr.1, (h c).2.1.trans hr.2, (h c).2.2⟩

theorem claim : Cert.Claim := ⟨Cert.Kernel.Gen.facts, Cert.KernelIdeal.Gen.facts, Cert.ReferenceIdeal.Gen.facts, Cert.Pre_in_range.Gen.facts,
  Main.frame_kernel, Main.frame_ideal, frame_reference, frame_reference_in_range, trivial, algebraic⟩

end Cert.Proof

end
